-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_above_bottom [hPre_above_bottom : Cert.Pre_above_bottom.Facts] (m : (ℓ : Loc Cert.KernelIdeal.nD Cert.KernelIdeal.τ Cert.KernelIdeal.sig) → Buf (Elt Ideal) ℓ) : Prop :=
  ∀ c : Dev Cert.KernelIdeal.nD,
    (Cert.Pre_above_bottom.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_above_bottom [hPre_above_bottom : Cert.Pre_above_bottom.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_above_bottom.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_above_bottom [hKernelIdeal : Cert.KernelIdeal.Facts] [hPre_above_bottom : Cert.Pre_above_bottom.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_above_bottom m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_above_bottom [hReferenceIdeal : Cert.ReferenceIdeal.Facts] [hPre_above_bottom : Cert.Pre_above_bottom.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_above_bottom m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_above_bottom [hKernelIdeal : Cert.KernelIdeal.Facts] [hReferenceIdeal : Cert.ReferenceIdeal.Facts] [hPre_above_bottom : Cert.Pre_above_bottom.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_above_bottom m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_above_bottom : Cert.Pre_above_bottom.Facts),
    quiescent_Kernel (hKernel := hKernel)
    ∧ quiescent_KernelIdeal (hKernelIdeal := hKernelIdeal)
    ∧ quiescent_KernelIdeal_pre_above_bottom (hKernelIdeal := hKernelIdeal) (hPre_above_bottom := hPre_above_bottom)
    ∧ quiescent_ReferenceIdeal (hReferenceIdeal := hReferenceIdeal)
    ∧ quiescent_ReferenceIdeal_pre_above_bottom (hReferenceIdeal := hReferenceIdeal) (hPre_above_bottom := hPre_above_bottom)
    ∧ preserves_Kernel_KernelIdeal
    ∧ algebraic_KernelIdeal_ReferenceIdeal_pre_above_bottom (hKernelIdeal := hKernelIdeal) (hReferenceIdeal := hReferenceIdeal) (hPre_above_bottom := hPre_above_bottom)
-- ==== Pre_above_bottom.lean ====
abbrev S4x224x224x192 : Shape := ⟨4, ![4, 224, 224, 192]⟩
abbrev S_ : Shape := ⟨0, ![]⟩

class Facts : Prop where
  bcast_S_S4x224x224x192 : S_.BroadcastsInDim S4x224x224x192 (![] : Fin 0 → Fin S4x224x224x192.rank)
  reducesTo_S4x224x224x192_S_d0_1_2_3 : S4x224x224x192.ReducesTo [0, 1, 2, 3] S_
  h_S_ : 0 < S_.numel

variable [Facts]

def fn {F : FTy → Type} [FloatOps F] (main_arg0 : FVec F S4x224x224x192 .f32) : IVec S_ 1 :=
  let main_cst : FVec F S_ .f32 := constant S_ .f32 0xFF800000#32
  let main_v0 : FVec F S4x224x224x192 .f32 := broadcastInDim S4x224x224x192 ![] bcast_S_S4x224x224x192 main_cst
  let main_v1 : IVec S4x224x224x192 1 := cmpf .ogt main_arg0 main_v0
  let main_c : IVec S_ 1 := constantI S_ 1 1#1
  let main_v2 : IVec S_ 1 := (fun x v => Host.reduce IntOp.andi x v reducesTo_S4x224x224x192_S_d0_1_2_3 h_S_) main_v1 main_c
  main_v2
-- ==== Kernel.lean ====
abbrev S4x224x224x192 : Shape := ⟨4, ![4, 224, 224, 192]⟩
abbrev S192x256 : Shape := ⟨2, ![192, 256]⟩
abbrev S128x256 : Shape := ⟨2, ![128, 256]⟩
abbrev S4x224x224x24 : Shape := ⟨4, ![4, 224, 224, 24]⟩
abbrev S3x1x16x224x192 : Shape := ⟨5, ![3, 1, 16, 224, 192]⟩
abbrev S2x1x16x224x24 : Shape := ⟨5, ![2, 1, 16, 224, 24]⟩
abbrev S3 : Shape := ⟨1, ![3]⟩
abbrev S2 : Shape := ⟨1, ![2]⟩
abbrev S1 : Shape := ⟨1, ![1]⟩
abbrev S_ : Shape := ⟨0, ![]⟩
abbrev S1x1x16x224x192 : Shape := ⟨5, ![1, 1, 16, 224, 192]⟩
abbrev S1x16x224x192 : Shape := ⟨4, ![1, 16, 224, 192]⟩
abbrev S1x16x224x24 : Shape := ⟨4, ![1, 16, 224, 24]⟩
abbrev S1x1x16x224x24 : Shape := ⟨5, ![1, 1, 16, 224, 24]⟩
abbrev S3584x192 : Shape := ⟨2, ![3584, 192]⟩
abbrev S3584x256 : Shape := ⟨2, ![3584, 256]⟩
abbrev S3584x128 : Shape := ⟨2, ![3584, 128]⟩
abbrev S3584x24 : Shape := ⟨2, ![3584, 24]⟩

abbrev nBuf : Space → Nat
  | .hbm => 5
  | .vmem => 5
  | .smem => 0
  | _ => 0

abbrev bufTy : (tb : Table) → Fin (tcTables nBuf tb) → BufTy
  | .hbm, ⟨0, _⟩ => ⟨S4x224x224x192, .f32⟩
  | .hbm, ⟨1, _⟩ => ⟨S192x256, .f32⟩
  | .hbm, ⟨2, _⟩ => ⟨S128x256, .f32⟩
  | .hbm, ⟨3, _⟩ => ⟨S128x256, .f32⟩
  | .hbm, ⟨4, _⟩ => ⟨S4x224x224x24, .f32⟩
  | .local _ .vmem, ⟨0, _⟩ => ⟨S192x256, .f32⟩
  | .local _ .vmem, ⟨1, _⟩ => ⟨S128x256, .f32⟩
  | .local _ .vmem, ⟨2, _⟩ => ⟨S128x256, .f32⟩
  | .local _ .vmem, ⟨3, _⟩ => ⟨S3x1x16x224x192, .f32⟩
  | .local _ .vmem, ⟨4, _⟩ => ⟨S2x1x16x224x24, .f32⟩
  | _, _ => ⟨S4x224x224x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_cst_0 : Ref sig .tc := ⟨.hbm, 2, rfl⟩
abbrev main_call0_cst_1 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![56], ![false]⟩

def k0_off1 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off2 (i : grid0.Coords) : Fin 5 → Nat :=
  let arg0 : BitVec 32 := BitVec.ofNat 32 (i 0).val
  let c3_i32 : BitVec 32 := 3#32
  let v3 : BitVec 32 := Scalar.remsi arg0 c3_i32
  let c0_i32_7 : BitVec 32 := 0#32
  let c0_i32_8 : BitVec 32 := 0#32
  let c0_i32_9 : BitVec 32 := 0#32
  let c0_i32_10 : BitVec 32 := 0#32
  ![v3.toNat, 0, 0, 0, 0]
def k0_off3 (i : grid0.Coords) : Fin 4 → Nat :=
  let arg0 : BitVec 32 := BitVec.ofNat 32 (i 0).val
  let c0_i32_1 : BitVec 32 := 0#32
  let v6 : BitVec 1 := Scalar.cmpi .sgt arg0 c0_i32_1
  let v7 : BitVec 32 := Scalar.extui v6
  let c0_i32_2 : BitVec 32 := 0#32
  let v8 : BitVec 1 := Scalar.cmpi .slt arg0 c0_i32_2
  let v9 : BitVec 32 := Scalar.extui v8
  let v10 : BitVec 32 := Scalar.subi v7 v9
  let c14_i32 : BitVec 32 := 14#32
  let c0_i32_3 : BitVec 32 := 0#32
  let v11 : BitVec 1 := Scalar.cmpi .sgt c14_i32 c0_i32_3
  let v12 : BitVec 32 := Scalar.extui v11
  let c0_i32_4 : BitVec 32 := 0#32
  let v13 : BitVec 1 := Scalar.cmpi .slt c14_i32 c0_i32_4
  let v14 : BitVec 32 := Scalar.extui v13
  let v15 : BitVec 32 := Scalar.subi v12 v14
  let v16 : BitVec 1 := Scalar.cmpi .ne v10 v15
  let v17 : BitVec 32 := Scalar.remsi arg0 c14_i32
  let c0_i32_5 : BitVec 32 := 0#32
  let v18 : BitVec 1 := Scalar.cmpi .ne v17 c0_i32_5
  let v19 : BitVec 1 := Scalar.andi v16 v18
  let v5 : BitVec 32 := Scalar.divsi arg0 c14_i32
  let c1_i32 : BitVec 32 := 1#32
  let v20 : BitVec 32 := Scalar.subi v5 c1_i32
  let v21 : BitVec 32 := Scalar.select v19 v20 v5
  let c14_i32_6 : BitVec 32 := 14#32
  let v22 : BitVec 32 := Scalar.muli v21 c14_i32_6
  let v23 : BitVec 32 := Scalar.subi arg0 v22
  let c16_i32 : BitVec 32 := 16#32
  let v24 : BitVec 32 := Scalar.muli v23 c16_i32
  let c0_i32_11 : BitVec 32 := 0#32
  let c0_i32_12 : BitVec 32 := 0#32
  ![v21.toNat, v24.toNat, 0, 0]
def k0_cond2 (i : grid0.Coords) : BitVec 1 :=
  let arg0 : BitVec 32 := BitVec.ofNat 32 (i 0).val
  let c2_i32_13 : BitVec 32 := 2#32
  let v30 : BitVec 1 := Scalar.cmpi .sge arg0 c2_i32_13
  let v31 : BitVec 32 := Scalar.extui v30
  let c0_i32_14 : BitVec 32 := 0#32
  let v32 : BitVec 1 := Scalar.cmpi .ne v31 c0_i32_14
  v32

def k0_off4 (i : grid0.Coords) : Fin 1 → Nat :=
  let arg0 : BitVec 32 := BitVec.ofNat 32 (i 0).val
  let c2_i32 : BitVec 32 := 2#32
  let v4 : BitVec 32 := Scalar.remsi arg0 c2_i32
  ![v4.toNat]
def k0_off5 (i : grid0.Coords) : Fin 4 → Nat :=
  let arg0 : BitVec 32 := BitVec.ofNat 32 (i 0).val
  let c2_i32_51 : BitVec 32 := 2#32
  let v102 : BitVec 32 := Scalar.subi arg0 c2_i32_51
  let c0_i32_53 : BitVec 32 := 0#32
  let v104 : BitVec 1 := Scalar.cmpi .sgt v102 c0_i32_53
  let v105 : BitVec 32 := Scalar.extui v104
  let c0_i32_54 : BitVec 32 := 0#32
  let v106 : BitVec 1 := Scalar.cmpi .slt v102 c0_i32_54
  let v107 : BitVec 32 := Scalar.extui v106
  let v108 : BitVec 32 := Scalar.subi v105 v107
  let c14_i32_52 : BitVec 32 := 14#32
  let c0_i32_55 : BitVec 32 := 0#32
  let v109 : BitVec 1 := Scalar.cmpi .sgt c14_i32_52 c0_i32_55
  let v110 : BitVec 32 := Scalar.extui v109
  let c0_i32_56 : BitVec 32 := 0#32
  let v111 : BitVec 1 := Scalar.cmpi .slt c14_i32_52 c0_i32_56
  let v112 : BitVec 32 := Scalar.extui v111
  let v113 : BitVec 32 := Scalar.subi v110 v112
  let v114 : BitVec 1 := Scalar.cmpi .ne v108 v113
  let v115 : BitVec 32 := Scalar.remsi v102 c14_i32_52
  let c0_i32_57 : BitVec 32 := 0#32
  let v116 : BitVec 1 := Scalar.cmpi .ne v115 c0_i32_57
  let v117 : BitVec 1 := Scalar.andi v114 v116
  let v103 : BitVec 32 := Scalar.divsi v102 c14_i32_52
  let c1_i32_58 : BitVec 32 := 1#32
  let v118 : BitVec 32 := Scalar.subi v103 c1_i32_58
  let v119 : BitVec 32 := Scalar.select v117 v118 v103
  let c14_i32_59 : BitVec 32 := 14#32
  let v120 : BitVec 32 := Scalar.muli v119 c14_i32_59
  let v121 : BitVec 32 := Scalar.subi v102 v120
  let c16_i32_60 : BitVec 32 := 16#32
  let v122 : BitVec 32 := Scalar.muli v121 c16_i32_60
  let c0_i32_61 : BitVec 32 := 0#32
  let c0_i32_62 : BitVec 32 := 0#32
  ![v119.toNat, v122.toNat, 0, 0]
def k0_off6 (i : grid0.Coords) : Fin 5 → Nat :=
  let arg0 : BitVec 32 := BitVec.ofNat 32 (i 0).val
  let c2_i32 : BitVec 32 := 2#32
  let v4 : BitVec 32 := Scalar.remsi arg0 c2_i32
  let c0_i32_63 : BitVec 32 := 0#32
  let c0_i32_64 : BitVec 32 := 0#32
  let c0_i32_65 : BitVec 32 := 0#32
  let c0_i32_66 : BitVec 32 := 0#32
  ![v4.toNat, 0, 0, 0, 0]
def k0_off7 (i : grid0.Coords) : Fin 5 → Nat :=
  let arg0 : BitVec 32 := BitVec.ofNat 32 (i 0).val
  let c3_i32 : BitVec 32 := 3#32
  let v3 : BitVec 32 := Scalar.remsi arg0 c3_i32
  let v33 : Index := Scalar.indexCast v3
  let c0 : Index := 0#32
  let c0_15 : Index := 0#32
  let c0_16 : Index := 0#32
  let c0_17 : Index := 0#32
  ![v33.toNat, 0, 0, 0, 0]
def k0_off8 (i : grid0.Coords) : Fin 5 → Nat :=
  let arg0 : BitVec 32 := BitVec.ofNat 32 (i 0).val
  let c2_i32 : BitVec 32 := 2#32
  let v4 : BitVec 32 := Scalar.remsi arg0 c2_i32
  let v66 : Index := Scalar.indexCast v4
  let c0_29 : Index := 0#32
  let c0_30 : Index := 0#32
  let c0_31 : Index := 0#32
  let c0_32 : Index := 0#32
  ![v66.toNat, 0, 0, 0, 0]
def k0_off9 (i : grid0.Coords) : Fin 1 → Nat :=
  let arg0 : BitVec 32 := BitVec.ofNat 32 (i 0).val
  let c2_i32 : BitVec 32 := 2#32
  let v4 : BitVec 32 := Scalar.remsi arg0 c2_i32
  ![v4.toNat]
def k0_off10 (i : grid0.Coords) : Fin 4 → Nat :=
  let arg0 : BitVec 32 := BitVec.ofNat 32 (i 0).val
  let c0_i32_34 : BitVec 32 := 0#32
  let v71 : BitVec 1 := Scalar.cmpi .sgt arg0 c0_i32_34
  let v72 : BitVec 32 := Scalar.extui v71
  let c0_i32_35 : BitVec 32 := 0#32
  let v73 : BitVec 1 := Scalar.cmpi .slt arg0 c0_i32_35
  let v74 : BitVec 32 := Scalar.extui v73
  let v75 : BitVec 32 := Scalar.subi v72 v74
  let c14_i32_33 : BitVec 32 := 14#32
  let c0_i32_36 : BitVec 32 := 0#32
  let v76 : BitVec 1 := Scalar.cmpi .sgt c14_i32_33 c0_i32_36
  let v77 : BitVec 32 := Scalar.extui v76
  let c0_i32_37 : BitVec 32 := 0#32
  let v78 : BitVec 1 := Scalar.cmpi .slt c14_i32_33 c0_i32_37
  let v79 : BitVec 32 := Scalar.extui v78
  let v80 : BitVec 32 := Scalar.subi v77 v79
  let v81 : BitVec 1 := Scalar.cmpi .ne v75 v80
  let v82 : BitVec 32 := Scalar.remsi arg0 c14_i32_33
  let c0_i32_38 : BitVec 32 := 0#32
  let v83 : BitVec 1 := Scalar.cmpi .ne v82 c0_i32_38
  let v84 : BitVec 1 := Scalar.andi v81 v83
  let v70 : BitVec 32 := Scalar.divsi arg0 c14_i32_33
  let c1_i32_39 : BitVec 32 := 1#32
  let v85 : BitVec 32 := Scalar.subi v70 c1_i32_39
  let v86 : BitVec 32 := Scalar.select v84 v85 v70
  let c14_i32_40 : BitVec 32 := 14#32
  let v87 : BitVec 32 := Scalar.muli v86 c14_i32_40
  let v88 : BitVec 32 := Scalar.subi arg0 v87
  let c16_i32_41 : BitVec 32 := 16#32
  let v89 : BitVec 32 := Scalar.muli v88 c16_i32_41
  let c0_i32_42 : BitVec 32 := 0#32
  let c0_i32_43 : BitVec 32 := 0#32
  ![v86.toNat, v89.toNat, 0, 0]
def k0_off11 (i : grid0.Coords) : Fin 5 → Nat :=
  let arg0 : BitVec 32 := BitVec.ofNat 32 (i 0).val
  let c2_i32 : BitVec 32 := 2#32
  let v4 : BitVec 32 := Scalar.remsi arg0 c2_i32
  let c0_i32_44 : BitVec 32 := 0#32
  let c0_i32_45 : BitVec 32 := 0#32
  let c0_i32_46 : BitVec 32 := 0#32
  let c0_i32_47 : BitVec 32 := 0#32
  ![v4.toNat, 0, 0, 0, 0]
def k0_cond3 (i : grid0.Coords) : BitVec 1 :=
  let arg0 : BitVec 32 := BitVec.ofNat 32 (i 0).val
  let c3_i32_48 : BitVec 32 := 3#32
  let v95 : BitVec 32 := Scalar.addi arg0 c3_i32_48
  let c56_i32 : BitVec 32 := 56#32
  let v96 : BitVec 1 := Scalar.cmpi .slt v95 c56_i32
  let v97 : BitVec 32 := Scalar.extui v96
  let c0_i32_49 : BitVec 32 := 0#32
  let v98 : BitVec 1 := Scalar.cmpi .ne v97 c0_i32_49
  v98

def k0_off12 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off13 (i : grid0.Coords) : Fin 5 → Nat :=
  let arg0 : BitVec 32 := BitVec.ofNat 32 (i 0).val
  let c3_i32 : BitVec 32 := 3#32
  let v3 : BitVec 32 := Scalar.remsi arg0 c3_i32
  let c0_i32_61 : BitVec 32 := 0#32
  let c0_i32_62 : BitVec 32 := 0#32
  let c0_i32_63 : BitVec 32 := 0#32
  let c0_i32_64 : BitVec 32 := 0#32
  ![v3.toNat, 0, 0, 0, 0]
def k0_off14 (i : grid0.Coords) : Fin 4 → Nat :=
  let arg0 : BitVec 32 := BitVec.ofNat 32 (i 0).val
  let c3_i32_51 : BitVec 32 := 3#32
  let v102 : BitVec 32 := Scalar.addi arg0 c3_i32_51
  let c0_i32_53 : BitVec 32 := 0#32
  let v104 : BitVec 1 := Scalar.cmpi .sgt v102 c0_i32_53
  let v105 : BitVec 32 := Scalar.extui v104
  let c0_i32_54 : BitVec 32 := 0#32
  let v106 : BitVec 1 := Scalar.cmpi .slt v102 c0_i32_54
  let v107 : BitVec 32 := Scalar.extui v106
  let v108 : BitVec 32 := Scalar.subi v105 v107
  let c14_i32_52 : BitVec 32 := 14#32
  let c0_i32_55 : BitVec 32 := 0#32
  let v109 : BitVec 1 := Scalar.cmpi .sgt c14_i32_52 c0_i32_55
  let v110 : BitVec 32 := Scalar.extui v109
  let c0_i32_56 : BitVec 32 := 0#32
  let v111 : BitVec 1 := Scalar.cmpi .slt c14_i32_52 c0_i32_56
  let v112 : BitVec 32 := Scalar.extui v111
  let v113 : BitVec 32 := Scalar.subi v110 v112
  let v114 : BitVec 1 := Scalar.cmpi .ne v108 v113
  let v115 : BitVec 32 := Scalar.remsi v102 c14_i32_52
  let c0_i32_57 : BitVec 32 := 0#32
  let v116 : BitVec 1 := Scalar.cmpi .ne v115 c0_i32_57
  let v117 : BitVec 1 := Scalar.andi v114 v116
  let v103 : BitVec 32 := Scalar.divsi v102 c14_i32_52
  let c1_i32_58 : BitVec 32 := 1#32
  let v118 : BitVec 32 := Scalar.subi v103 c1_i32_58
  let v119 : BitVec 32 := Scalar.select v117 v118 v103
  let c14_i32_59 : BitVec 32 := 14#32
  let v120 : BitVec 32 := Scalar.muli v119 c14_i32_59
  let v121 : BitVec 32 := Scalar.subi v102 v120
  let c16_i32_60 : BitVec 32 := 16#32
  let v122 : BitVec 32 := Scalar.muli v121 c16_i32_60
  let c0_i32_65 : BitVec 32 := 0#32
  let c0_i32_66 : BitVec 32 := 0#32
  ![v119.toNat, v122.toNat, 0, 0]
def k0_cond4 (i : grid0.Coords) : BitVec 1 :=
  let arg0 : BitVec 32 := BitVec.ofNat 32 (i 0).val
  let c55_i32 : BitVec 32 := 55#32
  let v99 : BitVec 1 := Scalar.cmpi .eq arg0 c55_i32
  let v100 : BitVec 32 := Scalar.extui v99
  let c0_i32_50 : BitVec 32 := 0#32
  let v101 : BitVec 1 := Scalar.cmpi .ne v100 c0_i32_50
  v101

def k0_off15 (i : grid0.Coords) : Fin 1 → Nat :=
  let arg0 : BitVec 32 := BitVec.ofNat 32 (i 0).val
  let c1_i32_53 : BitVec 32 := 1#32
  let v104 : BitVec 32 := Scalar.subi arg0 c1_i32_53
  let c0_i32_54 : BitVec 32 := 0#32
  let v105 : BitVec 32 := Scalar.subi v104 c0_i32_54
  let c2_i32_55 : BitVec 32 := 2#32
  let v106 : BitVec 32 := Scalar.remsi v105 c2_i32_55
  ![v106.toNat]
def k0_off16 (i : grid0.Coords) : Fin 4 → Nat :=
  let arg0 : BitVec 32 := BitVec.ofNat 32 (i 0).val
  let c1_i32_51 : BitVec 32 := 1#32
  let v102 : BitVec 32 := Scalar.subi arg0 c1_i32_51
  let c0_i32_52 : BitVec 32 := 0#32
  let v103 : BitVec 32 := Scalar.subi v102 c0_i32_52
  let c0_i32_57 : BitVec 32 := 0#32
  let v108 : BitVec 1 := Scalar.cmpi .sgt v103 c0_i32_57
  let v109 : BitVec 32 := Scalar.extui v108
  let c0_i32_58 : BitVec 32 := 0#32
  let v110 : BitVec 1 := Scalar.cmpi .slt v103 c0_i32_58
  let v111 : BitVec 32 := Scalar.extui v110
  let v112 : BitVec 32 := Scalar.subi v109 v111
  let c14_i32_56 : BitVec 32 := 14#32
  let c0_i32_59 : BitVec 32 := 0#32
  let v113 : BitVec 1 := Scalar.cmpi .sgt c14_i32_56 c0_i32_59
  let v114 : BitVec 32 := Scalar.extui v113
  let c0_i32_60 : BitVec 32 := 0#32
  let v115 : BitVec 1 := Scalar.cmpi .slt c14_i32_56 c0_i32_60
  let v116 : BitVec 32 := Scalar.extui v115
  let v117 : BitVec 32 := Scalar.subi v114 v116
  let v118 : BitVec 1 := Scalar.cmpi .ne v112 v117
  let v119 : BitVec 32 := Scalar.remsi v103 c14_i32_56
  let c0_i32_61 : BitVec 32 := 0#32
  let v120 : BitVec 1 := Scalar.cmpi .ne v119 c0_i32_61
  let v121 : BitVec 1 := Scalar.andi v118 v120
  let v107 : BitVec 32 := Scalar.divsi v103 c14_i32_56
  let c1_i32_62 : BitVec 32 := 1#32
  let v122 : BitVec 32 := Scalar.subi v107 c1_i32_62
  let v123 : BitVec 32 := Scalar.select v121 v122 v107
  let c14_i32_63 : BitVec 32 := 14#32
  let v124 : BitVec 32 := Scalar.muli v123 c14_i32_63
  let v125 : BitVec 32 := Scalar.subi v103 v124
  let c16_i32_64 : BitVec 32 := 16#32
  let v126 : BitVec 32 := Scalar.muli v125 c16_i32_64
  let c0_i32_65 : BitVec 32 := 0#32
  let c0_i32_66 : BitVec 32 := 0#32
  ![v123.toNat, v126.toNat, 0, 0]
def k0_off17 (i : grid0.Coords) : Fin 5 → Nat :=
  let arg0 : BitVec 32 := BitVec.ofNat 32 (i 0).val
  let c1_i32_53 : BitVec 32 := 1#32
  let v104 : BitVec 32 := Scalar.subi arg0 c1_i32_53
  let c0_i32_54 : BitVec 32 := 0#32
  let v105 : BitVec 32 := Scalar.subi v104 c0_i32_54
  let c2_i32_55 : BitVec 32 := 2#32
  let v106 : BitVec 32 := Scalar.remsi v105 c2_i32_55
  let c0_i32_67 : BitVec 32 := 0#32
  let c0_i32_68 : BitVec 32 := 0#32
  let c0_i32_69 : BitVec 32 := 0#32
  let c0_i32_70 : BitVec 32 := 0#32
  ![v106.toNat, 0, 0, 0, 0]
def k0_off18 (i : grid0.Coords) : Fin 1 → Nat :=
  let arg0 : BitVec 32 := BitVec.ofNat 32 (i 0).val
  let c2_i32 : BitVec 32 := 2#32
  let v4 : BitVec 32 := Scalar.remsi arg0 c2_i32
  ![v4.toNat]
def k0_off19 (i : grid0.Coords) : Fin 4 → Nat :=
  let arg0 : BitVec 32 := BitVec.ofNat 32 (i 0).val
  let c0_i32_72 : BitVec 32 := 0#32
  let v133 : BitVec 1 := Scalar.cmpi .sgt arg0 c0_i32_72
  let v134 : BitVec 32 := Scalar.extui v133
  let c0_i32_73 : BitVec 32 := 0#32
  let v135 : BitVec 1 := Scalar.cmpi .slt arg0 c0_i32_73
  let v136 : BitVec 32 := Scalar.extui v135
  let v137 : BitVec 32 := Scalar.subi v134 v136
  let c14_i32_71 : BitVec 32 := 14#32
  let c0_i32_74 : BitVec 32 := 0#32
  let v138 : BitVec 1 := Scalar.cmpi .sgt c14_i32_71 c0_i32_74
  let v139 : BitVec 32 := Scalar.extui v138
  let c0_i32_75 : BitVec 32 := 0#32
  let v140 : BitVec 1 := Scalar.cmpi .slt c14_i32_71 c0_i32_75
  let v141 : BitVec 32 := Scalar.extui v140
  let v142 : BitVec 32 := Scalar.subi v139 v141
  let v143 : BitVec 1 := Scalar.cmpi .ne v137 v142
  let v144 : BitVec 32 := Scalar.remsi arg0 c14_i32_71
  let c0_i32_76 : BitVec 32 := 0#32
  let v145 : BitVec 1 := Scalar.cmpi .ne v144 c0_i32_76
  let v146 : BitVec 1 := Scalar.andi v143 v145
  let v132 : BitVec 32 := Scalar.divsi arg0 c14_i32_71
  let c1_i32_77 : BitVec 32 := 1#32
  let v147 : BitVec 32 := Scalar.subi v132 c1_i32_77
  let v148 : BitVec 32 := Scalar.select v146 v147 v132
  let c14_i32_78 : BitVec 32 := 14#32
  let v149 : BitVec 32 := Scalar.muli v148 c14_i32_78
  let v150 : BitVec 32 := Scalar.subi arg0 v149
  let c16_i32_79 : BitVec 32 := 16#32
  let v151 : BitVec 32 := Scalar.muli v150 c16_i32_79
  let c0_i32_80 : BitVec 32 := 0#32
  let c0_i32_81 : BitVec 32 := 0#32
  ![v148.toNat, v151.toNat, 0, 0]
def k0_off20 (i : grid0.Coords) : Fin 5 → Nat :=
  let arg0 : BitVec 32 := BitVec.ofNat 32 (i 0).val
  let c2_i32 : BitVec 32 := 2#32
  let v4 : BitVec 32 := Scalar.remsi arg0 c2_i32
  let c0_i32_82 : BitVec 32 := 0#32
  let c0_i32_83 : BitVec 32 := 0#32
  let c0_i32_84 : BitVec 32 := 0#32
  let c0_i32_85 : BitVec 32 := 0#32
  ![v4.toNat, 0, 0, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4x224x224x192 : Shape := ⟨4, ![4, 224, 224, 192]⟩
abbrev S24 : Shape := ⟨1, ![24]⟩
abbrev S4x224x224x24x8 : Shape := ⟨5, ![4, 224, 224, 24, 8]⟩
abbrev S_ : Shape := ⟨0, ![]⟩
abbrev S4x224x224x24 : Shape := ⟨4, ![4, 224, 224, 24]⟩
abbrev S1x1x1x24 : Shape := ⟨4, ![1, 1, 1, 24]⟩

abbrev nBuf : Space → Nat
  | .hbm => 8
  | .vmem => 0
  | .smem => 0
  | _ => 0

abbrev bufTy : (tb : Table) → Fin (tcTables nBuf tb) → BufTy
  | .hbm, ⟨0, _⟩ => ⟨S4x224x224x192, .f32⟩
  | .hbm, ⟨1, _⟩ => ⟨S24, .f32⟩
  | .hbm, ⟨2, _⟩ => ⟨S4x224x224x24x8, .f32⟩
  | .hbm, ⟨3, _⟩ => ⟨S_, .f32⟩
  | .hbm, ⟨4, _⟩ => ⟨S4x224x224x24, .f32⟩
  | .hbm, ⟨5, _⟩ => ⟨S1x1x1x24, .f32⟩
  | .hbm, ⟨6, _⟩ => ⟨S4x224x224x24, .f32⟩
  | .hbm, ⟨7, _⟩ => ⟨S4x224x224x24, .f32⟩
  | _, _ => ⟨S4x224x224x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Names.lean ====
/-
  The kernel's slices under fixed names. The body works on blocks of sixteen rows of the input and of the result, on the
  three slots of its input buffer, on the two slots of its output buffer, and on one DMA semaphore per slot. It computes
  each offset from the step number by word arithmetic; here each such chain is given its closed form in the step number,
  and each slice the body writes is shown to be the named block, slot or semaphore.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.KitQuiescent
public import Idealize.ShloMosaic.Lib.Ring
public import Idealize.ShloMosaic.Lib.Ring.WriteBehind
public import Idealize.ShloMosaic.Lib.Affine
public import Idealize.ShloMosaic.Lib.Tactic

@[expose] public section

set_option maxRecDepth 16384

noncomputable section

namespace Cert.Proof.PoolRing

open Cert.KernelIdeal Cert.KernelIdeal.Gen
open Idealize.ShloMosaic
open Idealize.ShloMosaic.TcCoe Idealize.ShloMosaic.Tactic

/-! ## Blocks, slots and semaphores -/

abbrev xM : Memref sig .tc .hbm S4x224x224x192 .f32 := Memref.whole main_arg0
abbrev oM : Memref sig .tc .hbm S4x224x224x24 .f32 := Memref.whole main_v0
abbrev ibufM : Memref sig .tc .vmem S3x1x16x224x192 .f32 := Memref.whole cc0_scratch0
abbrev obufM : Memref sig .tc .vmem S2x1x16x224x24 .f32 := Memref.whole cc0_scratch1

/-- Where block `b` starts in the input and in the result: image `b / 14`, row `16 * (b % 14)`. -/
abbrev blkOff (b : Fin 56) : Fin 4 → Nat := ![b.val / 14, (b.val % 14) * 16, 0, 0]
/-- Where slot `s` of a buffer of `n` slots starts. -/
abbrev slotOff {n : ℕ} (s : Fin n) : Fin 5 → Nat := ![s.val, 0, 0, 0, 0]
/-- Where slot `s`'s semaphore sits in its array. -/
abbrev semOff {n : ℕ} (s : Fin n) : Fin 1 → Nat := ![s.val]

theorem xOff_inb (b : Fin 56) : ∀ a, blkOff b a + S1x16x224x192.size a ≤ S4x224x224x192.size a := by
  have := b.isLt; intro a; fin_cases a
  · show b.val / 14 + 1 ≤ 4; omega
  · show (b.val % 14) * 16 + 16 ≤ 224; omega
  · show 0 + 224 ≤ 224; omega
  · show 0 + 192 ≤ 192; omega
theorem oOff_inb (b : Fin 56) : ∀ a, blkOff b a + S1x16x224x24.size a ≤ S4x224x224x24.size a := by
  have := b.isLt; intro a; fin_cases a
  · show b.val / 14 + 1 ≤ 4; omega
  · show (b.val % 14) * 16 + 16 ≤ 224; omega
  · show 0 + 224 ≤ 224; omega
  · show 0 + 24 ≤ 24; omega
theorem isOff_inb (s : Fin 3) : ∀ a, slotOff s a + S1x1x16x224x192.size a ≤ S3x1x16x224x192.size a := by
  have := s.isLt; intro a; fin_cases a
  · show s.val + 1 ≤ 3; omega
  · show 0 + 1 ≤ 1; omega
  · show 0 + 16 ≤ 16; omega
  · show 0 + 224 ≤ 224; omega
  · show 0 + 192 ≤ 192; omega
theorem osOff_inb (s : Fin 2) : ∀ a, slotOff s a + S1x1x16x224x24.size a ≤ S2x1x16x224x24.size a := by
  have := s.isLt; intro a; fin_cases a
  · show s.val + 1 ≤ 2; omega
  · show 0 + 1 ≤ 1; omega
  · show 0 + 16 ≤ 16; omega
  · show 0 + 224 ≤ 224; omega
  · show 0 + 24 ≤ 24; omega
theorem isem_inb (s : Fin 3) : ∀ a, semOff s a + S1.size a ≤ S3.size a := by
  have := s.isLt; intro a; fin_cases a; show s.val + 1 ≤ 3; omega
theorem osem_inb (s : Fin 2) : ∀ a, semOff s a + S1.size a ≤ S2.size a := by
  have := s.isLt; intro a; fin_cases a; show s.val + 1 ≤ 2; omega

/-- Block `b` of the input. -/
def xblk (b : Fin 56) : Memref sig .tc .hbm S1x16x224x192 .f32 :=
  xM.slice (Rect.unit (s := S4x224x224x192) (blkOff b) S1x16x224x192.size (xOff_inb b)) (fun _ => rfl)
/-- Block `b` of the result. -/
def oblk (b : Fin 56) : Memref sig .tc .hbm S1x16x224x24 .f32 :=
  oM.slice (Rect.unit (s := S4x224x224x24) (blkOff b) S1x16x224x24.size (oOff_inb b)) (fun _ => rfl)
/-- Slot `s` of the input buffer. -/
def islot (s : Fin 3) : Memref sig .tc .vmem S1x16x224x192 .f32 :=
  (ibufM.slice (Rect.unit (s := S3x1x16x224x192) (slotOff s) S1x1x16x224x192.size (isOff_inb s)) (fun _ => rfl)).squeeze
    S1x16x224x192 squeezes_S1x1x16x224x192_S1x16x224x192
/-- Slot `s` of the output buffer. -/
def oslot (s : Fin 2) : Memref sig .tc .vmem S1x16x224x24 .f32 :=
  (obufM.slice (Rect.unit (s := S2x1x16x224x24) (slotOff s) S1x1x16x224x24.size (osOff_inb s)) (fun _ => rfl)).squeeze
    S1x16x224x24 squeezes_S1x1x16x224x24_S1x16x224x24
/-- The semaphore of slot `s` of the input buffer. -/
def isem (s : Fin 3) : DmaSems sig S_ :=
  (cc0_scratch2.slice (Rect.unit (s := S3) (semOff s) S1.size (isem_inb s))).squeeze S_ squeezes_S1_S_
/-- The semaphore of slot `s` of the output buffer. -/
def osem (s : Fin 2) : DmaSems sig S_ :=
  (cc0_scratch3.slice (Rect.unit (s := S2) (semOff s) S1.size (osem_inb s))).squeeze S_ squeezes_S1_S_

instance {n : ℕ} (s : Fin n) : ClosedOff (slotOff s) := ⟨slotOff s, rfl⟩
instance (b : Fin 56) : ClosedOff (blkOff b) := ⟨blkOff b, rfl⟩

/-! ## The offset chains in closed form -/

/-- The grid coordinates of step `n`. -/
def at_ (n : Fin 56) : grid0.Coords := fun a => ⟨n.val, by fin_cases a; exact n.isLt⟩
theorem coords_eq (i : grid0.Coords) : i = at_ (i 0) := by funext a; fin_cases a; rfl
/-- A statement about the step's coordinates is one about its number. -/
theorem of_steps {P : grid0.Coords → Prop} (h : ∀ n : Fin 56, P (at_ n)) (i : grid0.Coords) : P i := by
  rw [coords_eq i]; exact h _
theorem step_lt (i : grid0.Coords) : (i 0).val < 56 := (i 0).isLt

theorem off1_eq (i : grid0.Coords) : k0_off1 i = semOff (Ring.sl 3 (i 0).val) := by revert i; exact of_steps (by decide +kernel)
theorem off2_eq (i : grid0.Coords) : k0_off2 i = slotOff (Ring.sl 3 (i 0).val) := by revert i; exact of_steps (by decide +kernel)
theorem off3_eq (i : grid0.Coords) : k0_off3 i = blkOff (Ring.bk 56 (i 0).val) := by revert i; exact of_steps (by decide +kernel)
theorem off4_eq (i : grid0.Coords) : k0_off4 i = semOff (Ring.sl 2 (i 0).val) := by revert i; exact of_steps (by decide +kernel)
theorem off5_eq (i : grid0.Coords) (h : 2 ≤ (i 0).val) : k0_off5 i = blkOff (Ring.bk 56 ((i 0).val - 2)) := by
  revert i; exact of_steps (by decide +kernel)
theorem off6_eq (i : grid0.Coords) : k0_off6 i = slotOff (Ring.sl 2 (i 0).val) := by revert i; exact of_steps (by decide +kernel)
theorem off7_eq (i : grid0.Coords) : k0_off7 i = slotOff (Ring.sl 3 (i 0).val) := by revert i; exact of_steps (by decide +kernel)
theorem off8_eq (i : grid0.Coords) : k0_off8 i = slotOff (Ring.sl 2 (i 0).val) := by revert i; exact of_steps (by decide +kernel)
theorem off9_eq (i : grid0.Coords) : k0_off9 i = semOff (Ring.sl 2 (i 0).val) := by revert i; exact of_steps (by decide +kernel)
theorem off10_eq (i : grid0.Coords) : k0_off10 i = blkOff (Ring.bk 56 (i 0).val) := by revert i; exact of_steps (by decide +kernel)
theorem off11_eq (i : grid0.Coords) : k0_off11 i = slotOff (Ring.sl 2 (i 0).val) := by revert i; exact of_steps (by decide +kernel)
theorem off12_eq (i : grid0.Coords) : k0_off12 i = semOff (Ring.sl 3 (i 0).val) := by revert i; exact of_steps (by decide +kernel)
theorem off13_eq (i : grid0.Coords) : k0_off13 i = slotOff (Ring.sl 3 (i 0).val) := by revert i; exact of_steps (by decide +kernel)
theorem off14_eq (i : grid0.Coords) (h : (i 0).val + 3 < 56) : k0_off14 i = blkOff (Ring.bk 56 ((i 0).val + 3)) := by
  revert i; exact of_steps (by decide +kernel)
theorem off15_eq (i : grid0.Coords) (h : (i 0).val = 55) : k0_off15 i = semOff (Ring.sl 2 ((i 0).val + 1)) := by
  revert i; exact of_steps (by decide +kernel)
theorem off16_eq (i : grid0.Coords) (h : (i 0).val = 55) : k0_off16 i = blkOff (Ring.bk 56 ((i 0).val - 1)) := by
  revert i; exact of_steps (by decide +kernel)
theorem off17_eq (i : grid0.Coords) (h : (i 0).val = 55) : k0_off17 i = slotOff (Ring.sl 2 ((i 0).val + 1)) := by
  revert i; exact of_steps (by decide +kernel)
theorem off18_eq (i : grid0.Coords) : k0_off18 i = semOff (Ring.sl 2 (i 0).val) := by revert i; exact of_steps (by decide +kernel)
theorem off19_eq (i : grid0.Coords) : k0_off19 i = blkOff (Ring.bk 56 (i 0).val) := by revert i; exact of_steps (by decide +kernel)
theorem off20_eq (i : grid0.Coords) : k0_off20 i = slotOff (Ring.sl 2 (i 0).val) := by revert i; exact of_steps (by decide +kernel)

instance (i : grid0.Coords) : ClosedOff (k0_off2 i) := ⟨slotOff (Ring.sl 3 (i 0).val), off2_eq i⟩
instance (i : grid0.Coords) : ClosedOff (k0_off7 i) := ⟨slotOff (Ring.sl 3 (i 0).val), off7_eq i⟩
instance (i : grid0.Coords) : ClosedOff (k0_off8 i) := ⟨slotOff (Ring.sl 2 (i 0).val), off8_eq i⟩

/-! ## The body's conditions -/

/-- The condition of the first copies in: the first step. -/
abbrev cond1 (i : grid0.Coords) : BitVec 1 :=
  let v1 : BitVec 32 := Scalar.extui (Scalar.cmpi .eq (BitVec.ofNat 32 (i 0).val) 0#32)
  Scalar.cmpi .ne v1 0#32
theorem cond1_iff (i : grid0.Coords) : cond1 i = 1#1 ↔ (i 0).val = 0 := by revert i; exact of_steps (by decide +kernel)
theorem cond2_iff (i : grid0.Coords) : k0_cond2 i = 1#1 ↔ 2 ≤ (i 0).val := by revert i; exact of_steps (by decide +kernel)
theorem cond3_iff (i : grid0.Coords) : k0_cond3 i = 1#1 ↔ (i 0).val + 3 < 56 := by revert i; exact of_steps (by decide +kernel)
theorem cond4_iff (i : grid0.Coords) : k0_cond4 i = 1#1 ↔ (i 0).val = 55 := by revert i; exact of_steps (by decide +kernel)

/-! ## The body's slices are the named ones -/

theorem isem_congr {off : Fin 1 → Nat} {s : Fin 3} (e : off = semOff s) (hh) :
    (cc0_scratch2.slice (Rect.unit (s := S3) off S1.size hh)).squeeze S_ squeezes_S1_S_ = isem s :=
  congrArg (fun A : DmaSems sig S1 => A.squeeze S_ squeezes_S1_S_) (SemArray.slice_unit_congr _ e _ _)
theorem osem_congr {off : Fin 1 → Nat} {s : Fin 2} (e : off = semOff s) (hh) :
    (cc0_scratch3.slice (Rect.unit (s := S2) off S1.size hh)).squeeze S_ squeezes_S1_S_ = osem s :=
  congrArg (fun A : DmaSems sig S1 => A.squeeze S_ squeezes_S1_S_) (SemArray.slice_unit_congr _ e _ _)
theorem islot_congr {off : Fin 5 → Nat} {s : Fin 3} (e : off = slotOff s) (hh hs) :
    (ibufM.slice (Rect.unit (s := S3x1x16x224x192) off S1x1x16x224x192.size hh) hs).squeeze
      S1x16x224x192 squeezes_S1x1x16x224x192_S1x16x224x192 = islot s :=
  congrArg (fun M : Memref sig .tc .vmem S1x1x16x224x192 .f32 => M.squeeze S1x16x224x192 squeezes_S1x1x16x224x192_S1x16x224x192)
    (Memref.slice_unit_congr _ e _ _ _ _)
theorem oslot_congr {off : Fin 5 → Nat} {s : Fin 2} (e : off = slotOff s) (hh hs) :
    (obufM.slice (Rect.unit (s := S2x1x16x224x24) off S1x1x16x224x24.size hh) hs).squeeze
      S1x16x224x24 squeezes_S1x1x16x224x24_S1x16x224x24 = oslot s :=
  congrArg (fun M : Memref sig .tc .vmem S1x1x16x224x24 .f32 => M.squeeze S1x16x224x24 squeezes_S1x1x16x224x24_S1x16x224x24)
    (Memref.slice_unit_congr _ e _ _ _ _)
theorem xblk_congr {off : Fin 4 → Nat} {b : Fin 56} (e : off = blkOff b) (hh hs) :
    xM.slice (Rect.unit (s := S4x224x224x192) off S1x16x224x192.size hh) hs = xblk b :=
  Memref.slice_unit_congr _ e _ _ _ (fun _ => rfl)
theorem oblk_congr {off : Fin 4 → Nat} {b : Fin 56} (e : off = blkOff b) (hh hs) :
    oM.slice (Rect.unit (s := S4x224x224x24) off S1x16x224x24.size hh) hs = oblk b :=
  Memref.slice_unit_congr _ e _ _ _ (fun _ => rfl)

section Canon
variable (i : grid0.Coords)

-- the first step's copies in, at literal slots and blocks
@[sl_canon] theorem isemL0 (hh) : (cc0_scratch2.slice (Rect.unit (s := S3) ![0] S1.size hh)).squeeze S_ squeezes_S1_S_ = isem 0 := isem_congr (by decide) _
@[sl_canon] theorem isemL1 (hh) : (cc0_scratch2.slice (Rect.unit (s := S3) ![1] S1.size hh)).squeeze S_ squeezes_S1_S_ = isem 1 := isem_congr (by decide) _
@[sl_canon] theorem isemL2 (hh) : (cc0_scratch2.slice (Rect.unit (s := S3) ![2] S1.size hh)).squeeze S_ squeezes_S1_S_ = isem 2 := isem_congr (by decide) _
@[sl_canon] theorem islotL0 (hh hs) : (ibufM.slice (Rect.unit (s := S3x1x16x224x192) ![0, 0, 0, 0, 0] S1x1x16x224x192.size hh) hs).squeeze
    S1x16x224x192 squeezes_S1x1x16x224x192_S1x16x224x192 = islot 0 := islot_congr (by decide) _ _
@[sl_canon] theorem islotL1 (hh hs) : (ibufM.slice (Rect.unit (s := S3x1x16x224x192) ![1, 0, 0, 0, 0] S1x1x16x224x192.size hh) hs).squeeze
    S1x16x224x192 squeezes_S1x1x16x224x192_S1x16x224x192 = islot 1 := islot_congr (by decide) _ _
@[sl_canon] theorem islotL2 (hh hs) : (ibufM.slice (Rect.unit (s := S3x1x16x224x192) ![2, 0, 0, 0, 0] S1x1x16x224x192.size hh) hs).squeeze
    S1x16x224x192 squeezes_S1x1x16x224x192_S1x16x224x192 = islot 2 := islot_congr (by decide) _ _
@[sl_canon] theorem xblkL0 (hh hs) : xM.slice (Rect.unit (s := S4x224x224x192) ![0, 0, 0, 0] S1x16x224x192.size hh) hs = xblk 0 := xblk_congr (by decide) _ _
@[sl_canon] theorem xblkL1 (hh hs) : xM.slice (Rect.unit (s := S4x224x224x192) ![0, 16, 0, 0] S1x16x224x192.size hh) hs = xblk 1 := xblk_congr (by decide) _ _
@[sl_canon] theorem xblkL2 (hh hs) : xM.slice (Rect.unit (s := S4x224x224x192) ![0, 32, 0, 0] S1x16x224x192.size hh) hs = xblk 2 := xblk_congr (by decide) _ _

-- the step's input slot: waited, then refilled
@[sl_canon] theorem isemW (hh) : (cc0_scratch2.slice (Rect.unit (s := S3) (k0_off1 i) S1.size hh)).squeeze S_ squeezes_S1_S_ = isem (Ring.sl 3 (i 0).val) := isem_congr (off1_eq i) _
@[sl_canon] theorem islotW (hh hs) : (ibufM.slice (Rect.unit (s := S3x1x16x224x192) (k0_off2 i) S1x1x16x224x192.size hh) hs).squeeze
    S1x16x224x192 squeezes_S1x1x16x224x192_S1x16x224x192 = islot (Ring.sl 3 (i 0).val) := islot_congr (off2_eq i) _ _
@[sl_canon] theorem xblkW (hh hs) : xM.slice (Rect.unit (s := S4x224x224x192) (k0_off3 i) S1x16x224x192.size hh) hs = xblk (Ring.bk 56 (i 0).val) := xblk_congr (off3_eq i) _ _
@[sl_canon] theorem isemI (hh) : (cc0_scratch2.slice (Rect.unit (s := S3) (k0_off12 i) S1.size hh)).squeeze S_ squeezes_S1_S_ = isem (Ring.sl 3 (i 0).val) := isem_congr (off12_eq i) _
@[sl_canon] theorem islotI (hh hs) : (ibufM.slice (Rect.unit (s := S3x1x16x224x192) (k0_off13 i) S1x1x16x224x192.size hh) hs).squeeze
    S1x16x224x192 squeezes_S1x1x16x224x192_S1x16x224x192 = islot (Ring.sl 3 (i 0).val) := islot_congr (off13_eq i) _ _
@[sl_canon] theorem xblkI (h : (i 0).val + 3 < 56) (hh hs) : xM.slice (Rect.unit (s := S4x224x224x192) (k0_off14 i) S1x16x224x192.size hh) hs = xblk (Ring.bk 56 ((i 0).val + 3)) := xblk_congr (off14_eq i h) _ _

-- the output slot the step waits for, and the one it sends
@[sl_canon] theorem osemW (hh) : (cc0_scratch3.slice (Rect.unit (s := S2) (k0_off4 i) S1.size hh)).squeeze S_ squeezes_S1_S_ = osem (Ring.sl 2 (i 0).val) := osem_congr (off4_eq i) _
@[sl_canon] theorem oblkW (h : 2 ≤ (i 0).val) (hh hs) : oM.slice (Rect.unit (s := S4x224x224x24) (k0_off5 i) S1x16x224x24.size hh) hs = oblk (Ring.bk 56 ((i 0).val - 2)) := oblk_congr (off5_eq i h) _ _
@[sl_canon] theorem oslotW (hh hs) : (obufM.slice (Rect.unit (s := S2x1x16x224x24) (k0_off6 i) S1x1x16x224x24.size hh) hs).squeeze
    S1x16x224x24 squeezes_S1x1x16x224x24_S1x16x224x24 = oslot (Ring.sl 2 (i 0).val) := oslot_congr (off6_eq i) _ _
@[sl_canon] theorem osemI (hh) : (cc0_scratch3.slice (Rect.unit (s := S2) (k0_off9 i) S1.size hh)).squeeze S_ squeezes_S1_S_ = osem (Ring.sl 2 (i 0).val) := osem_congr (off9_eq i) _
@[sl_canon] theorem oblkI (hh hs) : oM.slice (Rect.unit (s := S4x224x224x24) (k0_off10 i) S1x16x224x24.size hh) hs = oblk (Ring.bk 56 (i 0).val) := oblk_congr (off10_eq i) _ _
@[sl_canon] theorem oslotI (hh hs) : (obufM.slice (Rect.unit (s := S2x1x16x224x24) (k0_off11 i) S1x1x16x224x24.size hh) hs).squeeze
    S1x16x224x24 squeezes_S1x1x16x224x24_S1x16x224x24 = oslot (Ring.sl 2 (i 0).val) := oslot_congr (off11_eq i) _ _

-- the last step's two waits for what is still going out
@[sl_canon] theorem osemD (h : (i 0).val = 55) (hh) : (cc0_scratch3.slice (Rect.unit (s := S2) (k0_off15 i) S1.size hh)).squeeze S_ squeezes_S1_S_ = osem (Ring.sl 2 ((i 0).val + 1)) := osem_congr (off15_eq i h) _
@[sl_canon] theorem oblkD (h : (i 0).val = 55) (hh hs) : oM.slice (Rect.unit (s := S4x224x224x24) (k0_off16 i) S1x16x224x24.size hh) hs = oblk (Ring.bk 56 ((i 0).val - 1)) := oblk_congr (off16_eq i h) _ _
@[sl_canon] theorem oslotD (h : (i 0).val = 55) (hh hs) : (obufM.slice (Rect.unit (s := S2x1x16x224x24) (k0_off17 i) S1x1x16x224x24.size hh) hs).squeeze
    S1x16x224x24 squeezes_S1x1x16x224x24_S1x16x224x24 = oslot (Ring.sl 2 ((i 0).val + 1)) := oslot_congr (off17_eq i h) _ _
@[sl_canon] theorem osemE (hh) : (cc0_scratch3.slice (Rect.unit (s := S2) (k0_off18 i) S1.size hh)).squeeze S_ squeezes_S1_S_ = osem (Ring.sl 2 (i 0).val) := osem_congr (off18_eq i) _
@[sl_canon] theorem oblkE (hh hs) : oM.slice (Rect.unit (s := S4x224x224x24) (k0_off19 i) S1x16x224x24.size hh) hs = oblk (Ring.bk 56 (i 0).val) := oblk_congr (off19_eq i) _ _
@[sl_canon] theorem oslotE (hh hs) : (obufM.slice (Rect.unit (s := S2x1x16x224x24) (k0_off20 i) S1x1x16x224x24.size hh) hs).squeeze
    S1x16x224x24 squeezes_S1x1x16x224x24_S1x16x224x24 = oslot (Ring.sl 2 (i 0).val) := oslot_congr (off20_eq i) _ _

end Canon

end Cert.Proof.PoolRing

end
-- ==== Proof.Pieces.lean ====
/-
  What the kernel's rings are made of: a block of the input or of the result held by the core, a slot of a buffer held
  by the core, a slot's semaphore at rest, and a copy under way between a slot and a block.
-/
module

public import proofs.«01_k».proof.Proof.Names

@[expose] public section

set_option maxRecDepth 16384

noncomputable section

namespace Cert.Proof.PoolRing

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The proof's resources: the pipeline's own, beside the counters the kernel's copies ride on. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

section Pieces
variable (c : Dev nD) (X : Buf (Elt F) (xM.view.loc (c : Thread nD τ)))

/-- Input slot `s`'s semaphore at zero. -/
abbrev icellP (s : Fin 3) : sProp 𝕄 := semVal ((c : Thread nD τ), SemLoc.dma (isem s).sem) 0
/-- Input slot `s` held at contents `f`. -/
abbrev islotP (s : Fin 3) (f : Buf (Elt F) ((islot s).view.loc (c : Thread nD τ))) : sProp 𝕄 :=
  (islot s).view.loc (c : Thread nD τ) ↦[(islot s).view.set]{fullShare} f
/-- Block `b` of the input held. -/
abbrev xP (b : Fin 56) : sProp 𝕄 := (xblk b).view.loc (c : Thread nD τ) ↦[(xblk b).view.set]{fullShare} X
/-- What block `b`'s copy leaves in input slot `s` over contents `f`. -/
abbrev landed (s : Fin 3) (b : Fin 56) (f : Buf (Elt F) ((islot s).view.loc (c : Thread nD τ))) :
    Buf (Elt F) ((islot s).view.loc (c : Thread nD τ)) :=
  (islot s).view.writes (Elt F) f [⟨Rect.whole S1x16x224x192, ReadAs.same.apply ((xblk b).view.read (Elt F) X)⟩]
/-- Block `b` on its way into input slot `s`, whose contents were `f`. -/
abbrev iflightP (s : Fin 3) (b : Fin 56) (f : Buf (Elt F) ((islot s).view.loc (c : Thread nD τ))) : sProp 𝕄 :=
  Transfers.Flight countersEmb (c : Thread nD τ) (SemLoc.dma (isem s).sem) () 114688 iprop(islotP c s (landed c X s b f) ∗ xP c X b)

/-- Output slot `s`'s semaphore at zero. -/
abbrev ocellP (s : Fin 2) : sProp 𝕄 := semVal ((c : Thread nD τ), SemLoc.dma (osem s).sem) 0
/-- Output slot `s` held at contents `f`. -/
abbrev oslotP (s : Fin 2) (f : Buf (Elt F) ((oslot s).view.loc (c : Thread nD τ))) : sProp 𝕄 :=
  (oslot s).view.loc (c : Thread nD τ) ↦[(oslot s).view.set]{fullShare} f
/-- Block `b` of the result held at contents `f`. -/
abbrev oP (b : Fin 56) (f : Buf (Elt F) ((oblk b).view.loc (c : Thread nD τ))) : sProp 𝕄 :=
  (oblk b).view.loc (c : Thread nD τ) ↦[(oblk b).view.set]{fullShare} f
/-- A copy from output slot `s` to block `b` of the result, which it leaves at `fo`. -/
abbrev oflightP (s : Fin 2) (b : Fin 56) (fo : Buf (Elt F) ((oblk b).view.loc (c : Thread nD τ)))
    (fs : Buf (Elt F) ((oslot s).view.loc (c : Thread nD τ))) : sProp 𝕄 :=
  Transfers.Flight countersEmb (c : Thread nD τ) (SemLoc.dma (osem s).sem) () 57344 iprop(oP c b fo ∗ oslotP c s fs)

end Pieces

end Cert.Proof.PoolRing

end
-- ==== Proof.Values.lean ====
/-
  What the views say: the array a step loads from its input slot, what reading its output slot back after the store
  gives, and what a copied block of the result then reads. `outv` is the block of the result a step sends out, as a
  function of the block of the input it took in and of the three weight tables.
-/
module

public import proofs.«01_k».proof.Proof.Pieces

@[expose] public section

set_option maxRecDepth 16384

noncomputable section

namespace Cert.Proof.PoolRing

open Cert.KernelIdeal Cert.KernelIdeal.Gen
open Idealize.ShloMosaic
open Idealize.ShloMosaic.TcCoe Idealize.ShloMosaic.Tactic

variable {F : FTy → Type} [FloatOps F]

/-- A block of the input with a unit axis in front, as the load of a slot gives it. -/
def lift {α : Type} (x : S1x16x224x192.Idx → α) : S1x1x16x224x192.Idx → α :=
  fun j => x (Shape.reshapeEquiv squeezes_S1x1x16x224x192_S1x16x224x192.numel_eq.symm j)
/-- A block of the result without the unit axis the store of a slot has in front. -/
def drop {α : Type} (w : S1x1x16x224x24.Idx → α) : S1x16x224x24.Idx → α :=
  fun j => w (Shape.reshapeEquiv squeezes_S1x1x16x224x24_S1x16x224x24.numel_eq j)

/-- The block of the result computed from block `x` of the input and tables `w2`, `w3`, `w4`. -/
def outv (x : S1x16x224x192.Idx → F .f32) (w2 : Vec F S192x256 .f32) (w3 w4 : Vec F S128x256 .f32) : S1x16x224x24.Idx → F .f32 :=
  drop (k0_pay1 (lift x) w2 w3 w4)

/-! ## Views in general -/

section Views
variable {κ : Kind} {sp : Space} {s s' : Shape} {e : EltTy} {Val : EltTy → Type} {σ : RefSig}

/-- A view written whole through a reshape of it reads what was written, reindexed. -/
theorem read_writes_reshape (v : View σ κ sp s e) (h : s'.numel = s.numel) (f : v.ty.Contents Val) (x : s'.Idx → Val e) :
    v.read Val ((v.reshape s' h).writes Val f [⟨Rect.whole s', x⟩]) = fun j => x (Shape.reshapeEquiv h.symm j) := by
  funext j
  have hr : (v.reshape s' h).read Val ((v.reshape s' h).writes Val f [⟨Rect.whole s', x⟩]) = x := View.read_writes_whole _ _ _
  have := congrFun hr (Shape.reshapeEquiv h.symm j)
  refine Eq.trans ?_ this
  show _ = v.read Val _ (Shape.reshapeEquiv h (Shape.reshapeEquiv h.symm j))
  rw [Shape.reshapeEquiv_reshapeEquiv, Shape.reshapeEquiv_self]

/-- A reshape of a view written whole reads what was written, reindexed. -/
theorem read_reshape_write (v : View σ κ sp s e) (h : s'.numel = s.numel) (f : v.ty.Contents Val) (w : s.Idx → Val e) :
    (v.reshape s' h).read Val (v.write Val f w Finset.univ) = fun j => w (Shape.reshapeEquiv h j) := by
  funext j
  exact congrFun (View.read_write_univ (v := v) f w) _

end Views

/-! ## The kernel's views -/

omit [FloatOps F] in
/-- A load of slot `s`, over which `x` was written whole, gives `x` behind a unit axis. -/
theorem readAt_landed {off : Fin 5 → Nat} {s : Fin 3} (e : off = slotOff s)
    (hh : ∀ a, off a + S1x1x16x224x192.size a ≤ S3x1x16x224x192.size a)
    (f : ibufM.view.ty.Contents (Elt F)) (x : S1x16x224x192.Idx → Elt F .f32) :
    ibufM.view.readAt (Elt F) (Rect.unit (s := S3x1x16x224x192) off S1x1x16x224x192.size hh).toLoadRect
        ((islot s).view.writes (Elt F) f [⟨Rect.whole S1x16x224x192, x⟩]) = lift x := by
  subst e
  exact read_writes_reshape (ibufM.access (Rect.unit (s := S3x1x16x224x192) (slotOff s) S1x1x16x224x192.size hh))
    squeezes_S1x1x16x224x192_S1x16x224x192.numel_eq f x

omit [FloatOps F] in
/-- Slot `s` of the output buffer reads, after a store over it, what was stored. -/
theorem oslot_read_store {off : Fin 5 → Nat} {s : Fin 2} (e : off = slotOff s)
    (hh : ∀ a, off a + S1x1x16x224x24.size a ≤ S2x1x16x224x24.size a)
    (f : obufM.view.ty.Contents (Elt F)) (w : S1x1x16x224x24.Idx → Elt F .f32) :
    (oslot s).view.read (Elt F) ((obufM.access (Rect.unit (s := S2x1x16x224x24) off S1x1x16x224x24.size hh)).write (Elt F) f w Finset.univ)
      = drop w := by
  subst e
  exact read_reshape_write (obufM.access (Rect.unit (s := S2x1x16x224x24) (slotOff s) S1x1x16x224x24.size hh))
    squeezes_S1x1x16x224x24_S1x16x224x24.numel_eq f w

omit [FloatOps F] in
/-- A block of the result over which `w` was copied whole reads `w`. -/
theorem oblk_read_landed (b : Fin 56) (f : oM.view.ty.Contents (Elt F)) (w : S1x16x224x24.Idx → Elt F .f32) :
    (oblk b).view.read (Elt F) ((oblk b).view.writes (Elt F) f [⟨Rect.whole S1x16x224x24, w⟩]) = w :=
  View.read_writes_whole _ _ _

end Cert.Proof.PoolRing

end
-- ==== Proof.Body.lean ====
/-
  One step of the kernel, in its five shapes: the first step, which starts the first three copies in; the second; a step
  in the middle, which waits for an output slot and refills its input slot; a late step, which has nothing left to
  fetch; and the last, which waits for all that is still going out. Each is run through once, for every step of its
  shape: it takes in its block of the input and leaves under way a copy of `out` of that block to the result.
-/
module

public import proofs.«01_k».proof.Proof.Values
public import Idealize.ShloMosaic.Lib.VecWindow

@[expose] public section

set_option maxRecDepth 16384

noncomputable section

namespace Cert.Proof.PoolRing

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Roles
variable (c : Dev nD) (X : Buf (Elt F) (xM.view.loc (c : Thread nD τ))) (out : Fin 56 → S1x16x224x24.Idx → Elt F .f32)

/-- Input slot `s` with nothing under way. -/
def ifreeP (s : Fin 3) : sProp 𝕄 := iprop(icellP c s ∗ ∃ f, islotP c s f)
/-- Block `b` of the input on its way into slot `s`. -/
def iinflP (s : Fin 3) (b : Fin 56) : sProp 𝕄 := iprop(∃ f, iflightP c X s b f)
/-- Output slot `s` with nothing under way. -/
def ofreeP (s : Fin 2) : sProp 𝕄 := iprop(ocellP c s ∗ ∃ f, oslotP c s f)
/-- Block `b` of the result, not written yet. -/
def oaheadP (b : Fin 56) : sProp 𝕄 := iprop(∃ f, oP c b f)
/-- Block `b` of the result, on its way out of slot `s`, at its value. -/
def oinflP (s : Fin 2) (b : Fin 56) : sProp 𝕄 :=
  iprop(∃ fo fs, ⌜(oblk b).view.read (Elt F) fo = out b⌝ ∗ oflightP c s b fo fs)
/-- Block `b` of the result, arrived, at its value. -/
def odoneP (b : Fin 56) : sProp 𝕄 := iprop(∃ f, ⌜(oblk b).view.read (Elt F) f = out b⌝ ∗ oP c b f)

end Roles

variable (c : Dev nD) (X : Buf (Elt F) (xM.view.loc (c : Thread nD τ)))
  (arg2 : Memref sig .tc .vmem S192x256 .f32) (harg2 : arg2.IsWhole)
  (arg3 : Memref sig .tc .vmem S128x256 .f32) (harg3 : arg3.IsWhole)
  (arg4 : Memref sig .tc .vmem S128x256 .f32) (harg4 : arg4.IsWhole)
  (i : grid0.Coords) (out : Fin 56 → S1x16x224x24.Idx → Elt F .f32)
  (w2 : Buf (Elt F) (arg2.view.loc (c : Thread nD τ))) (w3 : Buf (Elt F) (arg3.view.loc (c : Thread nD τ)))
  (w4 : Buf (Elt F) (arg4.view.loc (c : Thread nD τ)))

/-- The body at step `i`, over the kernel's own arrays and three windows. -/
abbrev bodyG : Prog (TpuEff nD τ sig (Elt F) Λ₀ .tc) PUnit :=
  cc0_body i xM (Memref.isWhole_whole _) arg2 harg2 arg3 harg3 arg4 harg4 oM (Memref.isWhole_whole _)
    ibufM (Memref.isWhole_whole _) obufM (Memref.isWhole_whole _) cc0_scratch2 cc0_scratch3

/-- The three weight tables, held. -/
def tables : sProp 𝕄 :=
  iprop((arg2.view.loc (c : Thread nD τ) ↦[arg2.view.set]{fullShare} w2)
    ∗ (arg3.view.loc (c : Thread nD τ) ↦[arg3.view.set]{fullShare} w3)
    ∗ (arg4.view.loc (c : Thread nD τ) ↦[arg4.view.set]{fullShare} w4))

/-- What `out` has to be at the step's block. -/
def OutAt : Prop :=
  out (Ring.bk 56 (i 0).val) = outv ((xblk (Ring.bk 56 (i 0).val)).view.read (Elt F) X)
    (arg2.view.read (Elt F) w2) (arg3.view.read (Elt F) w3) (arg4.view.read (Elt F) w4)

omit [FloatOps F] in
/-- A copy under way from output slot `s`, over which a store put `w`, leaves its block at `w`. -/
theorem landed_eq {off : Fin 5 → Nat} {s : Fin 2} (e : off = slotOff s) (hh) (b : Fin 56) (w : S1x1x16x224x24.Idx → Elt F .f32) (f0 fs) :
    (oblk b).view.read (Elt F) ((oblk b).view.writes (Elt F) f0 [⟨Rect.whole S1x16x224x24, ReadAs.same.apply ((oslot s).view.read (Elt F)
        ((obufM.access (Rect.unit (s := S2x1x16x224x24) off S1x1x16x224x24.size hh)).write (Elt F) fs w Finset.univ))⟩]) = drop w :=
  (oblk_read_landed b f0 _).trans (oslot_read_store e hh fs w)

omit [FloatOps F] in
/-- A load of a whole window reads what the window reads. -/
theorem load_table {sp : Space} {a b : ℕ} (m : Memref sig .tc sp ⟨2, ![a, b]⟩ .f32) (w : m.view.ty.Contents (Elt F)) (off hh) :
    m.view.readAt (Elt F) (Rect.unit (s := ⟨2, ![a, b]⟩) off (Shape.size ⟨2, ![a, b]⟩) hh).toLoadRect w = m.view.read (Elt F) w :=
  View.readAt_full m.view w hh

/-- The block's value from what the step loaded, where that is what the arrays hold. -/
theorem outv_eq {x : S1x16x224x192.Idx → F .f32} {r2 v2 : Vec F S192x256 .f32} {r3 v3 r4 v4 : Vec F S128x256 .f32}
    {v : Vec F S1x1x16x224x192 .f32} (hv : v = lift x) (h2 : v2 = r2) (h3 : v3 = r3) (h4 : v4 = r4) :
    outv x r2 r3 r4 = drop (k0_pay1 v v2 v3 v4) := by subst hv h2 h3 h4; rfl

/-- A copy out of slot `s`, over which a store put the value `out` names, is the copy `oinflP` states. -/
theorem sent {off : Fin 5 → Nat} {s : Fin 2} (e : off = slotOff s) (hh) {b : Fin 56} {v w2' w3' w4'} (f0 fs)
    (hv : out b = drop (k0_pay1 v w2' w3' w4')) :
    oflightP c s b ((oblk b).view.writes (Elt F) f0 [⟨Rect.whole S1x16x224x24, ReadAs.same.apply ((oslot s).view.read (Elt F)
        ((obufM.access (Rect.unit (s := S2x1x16x224x24) off S1x1x16x224x24.size hh)).write (Elt F) fs (k0_pay1 v w2' w3' w4') Finset.univ))⟩])
        ((obufM.access (Rect.unit (s := S2x1x16x224x24) off S1x1x16x224x24.size hh)).write (Elt F) fs (k0_pay1 v w2' w3' w4') Finset.univ)
      ⊢ oinflP c out s b := by
  unfold oinflP
  iintro H
  iexists _, _
  isplitr
  on_goal 2 => iexact H
  ipureintro
  exact (landed_eq e hh b _ f0 fs).trans hv.symm

/-- The first step: the first three copies in are started, the first block is taken in, and its slot refilled. -/
theorem first (h0 : (i 0).val = 0) (hout : OutAt c X arg2 arg3 arg4 i out w2 w3 w4) (W) (Q : PUnit → sProp 𝕄) :
    iprop(tables c arg2 arg3 arg4 w2 w3 w4
      ∗ ifreeP c (Ring.sl 3 (i 0).val)
      ∗ xP c X (Ring.bk 56 (i 0).val)
      ∗ ifreeP c 1
      ∗ xP c X 1
      ∗ ifreeP c 2
      ∗ xP c X 2
      ∗ xP c X (Ring.bk 56 ((i 0).val + 3))
      ∗ ofreeP c (Ring.sl 2 (i 0).val)
      ∗ oaheadP c (Ring.bk 56 (i 0).val)
      ∗ owes (c : Thread nD τ) 0 W
      ∗ ((tables c arg2 arg3 arg4 w2 w3 w4
          ∗ xP c X (Ring.bk 56 (i 0).val)
          ∗ iinflP c X 1 1
          ∗ iinflP c X 2 2
          ∗ iinflP c X (Ring.sl 3 (i 0).val) (Ring.bk 56 ((i 0).val + 3))
          ∗ oinflP c out (Ring.sl 2 (i 0).val) (Ring.bk 56 (i 0).val)
          ∗ ∃ W', owes (c : Thread nD τ) 0 W') -∗ Q PUnit.unit))
    ⊢ wp frame (wpE (defs₀ (F := F)) 𝒱₀ (c : Thread nD τ) none) Set.univ (bodyG arg2 harg2 arg3 harg3 arg4 harg4 i) Q := by
  have h3 : (i 0).val + 3 < 56 := by omega
  have hs : (0 : Fin 3) = Ring.sl 3 (i 0).val := by rw [h0]; rfl
  have hb : (0 : Fin 56) = Ring.bk 56 (i 0).val := by rw [h0]; rfl
  have hcanon1 : isem 0 = isem (Ring.sl 3 (i 0).val) := congrArg isem hs
  have hcanon2 : islot 0 = islot (Ring.sl 3 (i 0).val) := congrArg islot hs
  have hcanon3 : xblk 0 = xblk (Ring.bk 56 (i 0).val) := congrArg xblk hb
  have c1 : cond1 i = 1#1 := (cond1_iff i).mpr h0
  have c2 : ¬ k0_cond2 i = 1#1 := by rw [cond2_iff]; omega
  have c3 : k0_cond3 i = 1#1 := (cond3_iff i).mpr h3
  have c4 : ¬ k0_cond4 i = 1#1 := by rw [cond4_iff]; omega
  unfold tables ifreeP ofreeP oaheadP iinflP
  iintro ⟨⟨H2, H3, H4⟩, ⟨I0, ⟨%g0, S0⟩⟩, X0, ⟨I1, ⟨%g1, S1⟩⟩, X1, ⟨I2, ⟨%g2, S2⟩⟩, X2, X3, ⟨O0, ⟨%fs, T0⟩⟩, ⟨%f0, HO⟩, HW, HQ⟩
  sl_exec
  sl_step
  iapply HQ
  isplitl [H2 H3 H4]
  · isplitl [H2]
    · iexact H2
    · isplitl [H3]
      · iexact H3
      · iexact H4
  isplitl [X0]
  · iexact X0
  isplitl [I1]
  · iexists _; iexact I1
  isplitl [I2]
  · iexists _; iexact I2
  isplitl [I0]
  · iexists _; iexact I0
  isplitl [O0]
  · iapply sent c out (off8_eq i) _ _ _ (hout.trans (outv_eq (readAt_landed (off7_eq i) _ _ _) (load_table arg2 w2 _ _)
      (load_table arg3 w3 _ _) (load_table arg4 w4 _ _)))
    iexact O0
  iexists _; iexact HW

/-- The second step: nothing to wait for on the way out yet. -/
theorem second (h1 : (i 0).val = 1) (hout : OutAt c X arg2 arg3 arg4 i out w2 w3 w4) (W) (Q : PUnit → sProp 𝕄) :
    iprop(tables c arg2 arg3 arg4 w2 w3 w4
      ∗ iinflP c X (Ring.sl 3 (i 0).val) (Ring.bk 56 (i 0).val)
      ∗ xP c X (Ring.bk 56 ((i 0).val + 3))
      ∗ ofreeP c (Ring.sl 2 (i 0).val)
      ∗ oaheadP c (Ring.bk 56 (i 0).val)
      ∗ owes (c : Thread nD τ) 0 W
      ∗ ((tables c arg2 arg3 arg4 w2 w3 w4
          ∗ xP c X (Ring.bk 56 (i 0).val)
          ∗ iinflP c X (Ring.sl 3 (i 0).val) (Ring.bk 56 ((i 0).val + 3))
          ∗ oinflP c out (Ring.sl 2 (i 0).val) (Ring.bk 56 (i 0).val)
          ∗ ∃ W', owes (c : Thread nD τ) 0 W') -∗ Q PUnit.unit))
    ⊢ wp frame (wpE (defs₀ (F := F)) 𝒱₀ (c : Thread nD τ) none) Set.univ (bodyG arg2 harg2 arg3 harg3 arg4 harg4 i) Q := by
  have h3 : (i 0).val + 3 < 56 := by omega
  have c1 : ¬ cond1 i = 1#1 := by rw [cond1_iff]; omega
  have c2 : ¬ k0_cond2 i = 1#1 := by rw [cond2_iff]; omega
  have c3 : k0_cond3 i = 1#1 := (cond3_iff i).mpr h3
  have c4 : ¬ k0_cond4 i = 1#1 := by rw [cond4_iff]; omega
  unfold tables ofreeP oaheadP iinflP
  iintro ⟨⟨H2, H3, H4⟩, ⟨%fi, HI⟩, HX, ⟨O0, ⟨%fs, T0⟩⟩, ⟨%f0, HO⟩, HW, HQ⟩
  sl_exec
  sl_step
  iapply HQ
  isplitl [H2 H3 H4]
  · isplitl [H2]
    · iexact H2
    · isplitl [H3]
      · iexact H3
      · iexact H4
  isplitl [HI_src]
  · iexact HI_src
  isplitl [HI]
  · iexists _; iexact HI
  isplitl [O0]
  · iapply sent c out (off8_eq i) _ _ _ (hout.trans (outv_eq (readAt_landed (off7_eq i) _ _ _) (load_table arg2 w2 _ _)
      (load_table arg3 w3 _ _) (load_table arg4 w4 _ _)))
    iexact O0
  iexists _; iexact HW

/-- A step in the middle: it waits for its output slot and refills its input slot. -/
theorem middle (h2 : 2 ≤ (i 0).val) (h3 : (i 0).val + 3 < 56) (hout : OutAt c X arg2 arg3 arg4 i out w2 w3 w4) (W) (Q : PUnit → sProp 𝕄) :
    iprop(tables c arg2 arg3 arg4 w2 w3 w4
      ∗ iinflP c X (Ring.sl 3 (i 0).val) (Ring.bk 56 (i 0).val)
      ∗ xP c X (Ring.bk 56 ((i 0).val + 3))
      ∗ oinflP c out (Ring.sl 2 (i 0).val) (Ring.bk 56 ((i 0).val - 2))
      ∗ oaheadP c (Ring.bk 56 (i 0).val)
      ∗ owes (c : Thread nD τ) 0 W
      ∗ ((tables c arg2 arg3 arg4 w2 w3 w4
          ∗ xP c X (Ring.bk 56 (i 0).val)
          ∗ iinflP c X (Ring.sl 3 (i 0).val) (Ring.bk 56 ((i 0).val + 3))
          ∗ odoneP c out (Ring.bk 56 ((i 0).val - 2))
          ∗ oinflP c out (Ring.sl 2 (i 0).val) (Ring.bk 56 (i 0).val)
          ∗ ∃ W', owes (c : Thread nD τ) 0 W') -∗ Q PUnit.unit))
    ⊢ wp frame (wpE (defs₀ (F := F)) 𝒱₀ (c : Thread nD τ) none) Set.univ (bodyG arg2 harg2 arg3 harg3 arg4 harg4 i) Q := by
  have c1 : ¬ cond1 i = 1#1 := by rw [cond1_iff]; omega
  have c2 : k0_cond2 i = 1#1 := (cond2_iff i).mpr h2
  have c3 : k0_cond3 i = 1#1 := (cond3_iff i).mpr h3
  have c4 : ¬ k0_cond4 i = 1#1 := by rw [cond4_iff]; omega
  unfold tables iinflP oaheadP odoneP
  simp only [oinflP.eq_def _ _ _ (Ring.bk 56 ((i 0).val - 2))]
  iintro ⟨⟨H2, H3, H4⟩, ⟨%fi, HI⟩, HX, ⟨%fo, %fs, %ho, HOF⟩, ⟨%f0, HO⟩, HW, HQ⟩
  sl_exec
  sl_step
  iapply HQ
  isplitl [H2 H3 H4]
  · isplitl [H2]
    · iexact H2
    · isplitl [H3]
      · iexact H3
      · iexact H4
  isplitl [HI_src]
  · iexact HI_src
  isplitl [HI]
  · iexists _; iexact HI
  isplitl [HOF_dst]
  · iexists fo
    isplitr
    · ipureintro; exact ho
    · iexact HOF_dst
  isplitl [HOF]
  · iapply sent c out (off8_eq i) _ _ _ (hout.trans (outv_eq (readAt_landed (off7_eq i) _ _ _) (load_table arg2 w2 _ _)
      (load_table arg3 w3 _ _) (load_table arg4 w4 _ _)))
    iexact HOF
  iexists _; iexact HW

/-- A late step: it has nothing left to fetch. -/
theorem late (h2 : 2 ≤ (i 0).val) (h3 : ¬ (i 0).val + 3 < 56) (h4 : ¬ (i 0).val = 55) (hout : OutAt c X arg2 arg3 arg4 i out w2 w3 w4) (W) (Q : PUnit → sProp 𝕄) :
    iprop(tables c arg2 arg3 arg4 w2 w3 w4
      ∗ iinflP c X (Ring.sl 3 (i 0).val) (Ring.bk 56 (i 0).val)
      ∗ oinflP c out (Ring.sl 2 (i 0).val) (Ring.bk 56 ((i 0).val - 2))
      ∗ oaheadP c (Ring.bk 56 (i 0).val)
      ∗ owes (c : Thread nD τ) 0 W
      ∗ ((tables c arg2 arg3 arg4 w2 w3 w4
          ∗ xP c X (Ring.bk 56 (i 0).val)
          ∗ ifreeP c (Ring.sl 3 (i 0).val)
          ∗ odoneP c out (Ring.bk 56 ((i 0).val - 2))
          ∗ oinflP c out (Ring.sl 2 (i 0).val) (Ring.bk 56 (i 0).val)
          ∗ ∃ W', owes (c : Thread nD τ) 0 W') -∗ Q PUnit.unit))
    ⊢ wp frame (wpE (defs₀ (F := F)) 𝒱₀ (c : Thread nD τ) none) Set.univ (bodyG arg2 harg2 arg3 harg3 arg4 harg4 i) Q := by
  have c1 : ¬ cond1 i = 1#1 := by rw [cond1_iff]; omega
  have c2 : k0_cond2 i = 1#1 := (cond2_iff i).mpr h2
  have c3 : ¬ k0_cond3 i = 1#1 := by rw [cond3_iff]; omega
  have c4 : ¬ k0_cond4 i = 1#1 := by rw [cond4_iff]; omega
  unfold tables iinflP ifreeP oaheadP odoneP
  simp only [oinflP.eq_def _ _ _ (Ring.bk 56 ((i 0).val - 2))]
  iintro ⟨⟨H2, H3, H4⟩, ⟨%fi, HI⟩, ⟨%fo, %fs, %ho, HOF⟩, ⟨%f0, HO⟩, HW, HQ⟩
  sl_exec
  sl_step
  iapply HQ
  isplitl [H2 H3 H4]
  · isplitl [H2]
    · iexact H2
    · isplitl [H3]
      · iexact H3
      · iexact H4
  isplitl [HI_src]
  · iexact HI_src
  isplitl [HI HI_dst]
  · isplitl [HI]
    · iexact HI
    · iexists _; iexact HI_dst
  isplitl [HOF_dst]
  · iexists fo
    isplitr
    · ipureintro; exact ho
    · iexact HOF_dst
  isplitl [HOF]
  · iapply sent c out (off8_eq i) _ _ _ (hout.trans (outv_eq (readAt_landed (off7_eq i) _ _ _) (load_table arg2 w2 _ _)
      (load_table arg3 w3 _ _) (load_table arg4 w4 _ _)))
    iexact HOF
  iexists _; iexact HW

/-- The last step: it waits for the copy out of the step before and for its own. -/
theorem last (h4 : (i 0).val = 55) (hout : OutAt c X arg2 arg3 arg4 i out w2 w3 w4) (W) (Q : PUnit → sProp 𝕄) :
    iprop(tables c arg2 arg3 arg4 w2 w3 w4
      ∗ iinflP c X (Ring.sl 3 (i 0).val) (Ring.bk 56 (i 0).val)
      ∗ oinflP c out (Ring.sl 2 (i 0).val) (Ring.bk 56 ((i 0).val - 2))
      ∗ oinflP c out (Ring.sl 2 ((i 0).val + 1)) (Ring.bk 56 ((i 0).val - 1))
      ∗ oaheadP c (Ring.bk 56 (i 0).val)
      ∗ owes (c : Thread nD τ) 0 W
      ∗ ((tables c arg2 arg3 arg4 w2 w3 w4
          ∗ xP c X (Ring.bk 56 (i 0).val)
          ∗ ifreeP c (Ring.sl 3 (i 0).val)
          ∗ odoneP c out (Ring.bk 56 ((i 0).val - 2))
          ∗ odoneP c out (Ring.bk 56 ((i 0).val - 1))
          ∗ odoneP c out (Ring.bk 56 (i 0).val)
          ∗ ofreeP c (Ring.sl 2 ((i 0).val + 1))
          ∗ ofreeP c (Ring.sl 2 (i 0).val)
          ∗ ∃ W', owes (c : Thread nD τ) 0 W') -∗ Q PUnit.unit))
    ⊢ wp frame (wpE (defs₀ (F := F)) 𝒱₀ (c : Thread nD τ) none) Set.univ (bodyG arg2 harg2 arg3 harg3 arg4 harg4 i) Q := by
  have h2 : 2 ≤ (i 0).val := by omega
  have c1 : ¬ cond1 i = 1#1 := by rw [cond1_iff]; omega
  have c2 : k0_cond2 i = 1#1 := (cond2_iff i).mpr h2
  have c3 : ¬ k0_cond3 i = 1#1 := by rw [cond3_iff]; omega
  have c4 : k0_cond4 i = 1#1 := (cond4_iff i).mpr h4
  unfold tables iinflP oinflP ifreeP oaheadP odoneP ofreeP
  iintro ⟨⟨H2, H3, H4⟩, ⟨%fi, HI⟩, ⟨%fo, %fs, %ho, HOF⟩, ⟨%fo1, %fs1, %ho1, HOG⟩, ⟨%f0, HO⟩, HW, HQ⟩
  sl_exec
  sl_step
  iapply HQ
  isplitl [H2 H3 H4]
  · isplitl [H2]
    · iexact H2
    · isplitl [H3]
      · iexact H3
      · iexact H4
  isplitl [HI_src]
  · iexact HI_src
  isplitl [HI HI_dst]
  · isplitl [HI]
    · iexact HI
    · iexists _; iexact HI_dst
  isplitl [HOF_dst]
  · iexists fo
    isplitr
    · ipureintro; exact ho
    · iexact HOF_dst
  isplitl [HOG_dst]
  · iexists fo1
    isplitr
    · ipureintro; exact ho1
    · iexact HOG_dst
  isplitl [HO]
  · iexists _
    isplitr
    on_goal 2 => iexact HO
    ipureintro
    exact (landed_eq (off8_eq i) _ _ _ _ _).trans (hout.trans (outv_eq (readAt_landed (off7_eq i) _ _ _) (load_table arg2 w2 _ _)
      (load_table arg3 w3 _ _) (load_table arg4 w4 _ _))).symm
  isplitl [HOG HOG_src]
  · isplitl [HOG]
    · iexact HOG
    · iexists _; iexact HOG_src
  isplitl [HOF HOF_src]
  · isplitl [HOF]
    · iexact HOF
    · iexists _; iexact HOF_src
  iexists _; iexact HW

end Cert.Proof.PoolRing

end
-- ==== Proof.InRing.lean ====
/-
  The input ring's bookkeeping: three slots, three blocks ahead. Before step `p` the blocks `p`, `p + 1`, `p + 2` are on
  their way into the slots of their number modulo three, as far as they exist; all others are at home. The slots and
  copies are abstract here.
-/
module

public import Idealize.ShloMosaic.Lib.Ring

@[expose] public section

noncomputable section

namespace Cert.Proof.PoolRing.InRing

open Idealize.ShloMosaic Idealize.ShloMosaic.Ring
open Idealize.SL Idealize.SL.RA Idealize.SL.BI
open scoped Idealize.SL.BI
open Idealize.SL.BI.BIBase Idealize.SL.BI.Laws Idealize.SL.ProofMode Idealize.SL.Sem

variable {M : Type} [URA M] (home : Fin 56 → sProp M) (free : Fin 3 → sProp M) (infl : Fin 3 → Fin 56 → sProp M)

/-- What the slot of block `k` is doing: taking in block `k`, or nothing where there is no such block. -/
def role (k : ℕ) : sProp M := if k < 56 then infl (sl 3 k) (bk 56 k) else free (sl 3 k)

theorem role_lt {k : ℕ} (h : k < 56) : role free infl k = infl (sl 3 k) (bk 56 k) := if_pos h
theorem role_ge {k : ℕ} (h : ¬ k < 56) : role free infl k = free (sl 3 k) := if_neg h

/-- The ring before any step: every block at home, every slot free. -/
def start : sProp M := iprop(bigSep Finset.univ home ∗ free 0 ∗ free 1 ∗ free 2)
/-- The ring before step `p`, `1 ≤ p`. -/
def before (p : ℕ) : sProp M :=
  iprop(bigSep (homeSet 3 p) home ∗ role free infl p ∗ role free infl (p + 1) ∗ role free infl (p + 2))
/-- The ring before step `p`. -/
def at_ (p : ℕ) : sProp M := if p = 0 then start home free else before home free infl p

theorem at_zero {p : ℕ} (h : p = 0) : at_ home free infl p = start home free := if_pos h
theorem at_pos {p : ℕ} (h : ¬ p = 0) : at_ home free infl p = before home free infl p := if_neg h

/-- Before step 0 the blocks it starts stand apart: 0, 1, 2 and, into the slot it empties, 3. -/
theorem start_open (p : ℕ) (hp : p = 0) :
    start home free = iprop((home (bk 56 p) ∗ home 1 ∗ home 2 ∗ home (bk 56 (p + 3)) ∗ bigSep ((homeSet 3 p).erase (bk 56 (p + 3))) home)
      ∗ free (sl 3 p) ∗ free 1 ∗ free 2) := by
  subst hp
  unfold start
  have e : (Finset.univ : Finset (Fin 56)) = insert (bk 56 0) (insert 1 (insert 2 (insert (bk 56 (0 + 3)) ((homeSet 3 0).erase (bk 56 (0 + 3)))))) := by
    decide +kernel
  rw [e, bigSep_insert (by decide +kernel), bigSep_insert (by decide +kernel), bigSep_insert (by decide +kernel),
    bigSep_insert (by decide +kernel)]
  rfl

/-- After step 0 blocks 1, 2 and 3 are on their way. -/
theorem start_next (p : ℕ) (hp : p = 0) :
    before home free infl (p + 1) = iprop((home (bk 56 p) ∗ bigSep ((homeSet 3 p).erase (bk 56 (p + 3))) home)
      ∗ infl 1 1 ∗ infl 2 2 ∗ infl (sl 3 p) (bk 56 (p + 3))) := by
  subst hp
  unfold before
  rw [homeSet_succ 3 0 (by omega), bigSep_insert (bk_not_mem_erase 3 0 (by omega) (by decide)), role_lt _ _ (by omega), role_lt _ _ (by omega),
    role_lt _ _ (by omega)]
  rfl

/-- Before a step `t` with a block `t + 3`: that block apart, block `t` on its way, the other two slots in their roles. -/
theorem here (t : ℕ) (h : t + 3 < 56) :
    before home free infl t = iprop((home (bk 56 (t + 3)) ∗ bigSep ((homeSet 3 t).erase (bk 56 (t + 3))) home)
      ∗ infl (sl 3 t) (bk 56 t) ∗ role free infl (t + 1) ∗ role free infl (t + 2)) := by
  unfold before
  conv_lhs => rw [homeSet_out 3 t h, bigSep_insert (bkL_not_mem_erase 3 t), role_lt _ _ (show t < 56 by omega)]
  rfl

/-- After it: block `t` home, block `t + 3` on its way into its slot. -/
theorem next (t : ℕ) (h : t + 3 < 56) :
    before home free infl (t + 1) = iprop((home (bk 56 t) ∗ bigSep ((homeSet 3 t).erase (bk 56 (t + 3))) home)
      ∗ role free infl (t + 1) ∗ role free infl (t + 2) ∗ infl (sl 3 t) (bk 56 (t + 3))) := by
  unfold before
  rw [homeSet_succ 3 t h, bigSep_insert (bk_not_mem_erase 3 t (by omega) (by decide)), show t + 1 + 2 = t + 3 from rfl,
    role_lt _ _ h, sl_add 3 t]
  rfl

/-- Before a step with no block to fetch: block `t` on its way, the other two slots in their roles. -/
theorem here_tail (t : ℕ) (h : t < 56) :
    before home free infl t = iprop(bigSep (homeSet 3 t) home
      ∗ infl (sl 3 t) (bk 56 t) ∗ role free infl (t + 1) ∗ role free infl (t + 2)) := by
  unfold before
  rw [role_lt _ _ h]

/-- After it: block `t` home, its slot free. -/
theorem next_tail (t : ℕ) (h : t < 56) (h3 : ¬ t + 3 < 56) :
    before home free infl (t + 1) = iprop((home (bk 56 t) ∗ bigSep (homeSet 3 t) home)
      ∗ role free infl (t + 1) ∗ role free infl (t + 2) ∗ free (sl 3 t)) := by
  unfold before
  rw [homeSet_succ_tail 3 t (by omega) h, bigSep_insert (bk_not_mem_homeSet 3 t h (by decide)), show t + 1 + 2 = t + 3 from rfl,
    role_ge _ _ h3, sl_add 3 t]
  rfl

/-- After the last step every block is home and every slot free. -/
theorem finish : before home free infl 56 = iprop(bigSep Finset.univ home ∗ free 2 ∗ free 0 ∗ free 1) := by
  unfold before
  rw [homeSet_last 3 56 le_rfl, role_ge _ _ (by omega), role_ge _ _ (by omega), role_ge _ _ (by omega)]
  rfl

end Cert.Proof.PoolRing.InRing

end
-- ==== Proof.Step.lean ====
/-
  Every step of the kernel takes the two rings as they stand before it to the rings as they stand after it.
-/
module

public import proofs.«01_k».proof.Proof.Body
public import proofs.«01_k».proof.Proof.InRing

@[expose] public section

set_option maxRecDepth 16384

noncomputable section

namespace Cert.Proof.PoolRing

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Rings
variable (c : Dev nD) (X : Buf (Elt F) (xM.view.loc (c : Thread nD τ))) (out : Fin 56 → S1x16x224x24.Idx → Elt F .f32)

/-- The input ring before step `p`. -/
abbrev inR (p : ℕ) : sProp 𝕄 := InRing.at_ (xP c X) (ifreeP c) (iinflP c X) p
/-- The output ring before step `p`: a step waits for the copy out of two steps before, the last step for all. -/
abbrev outR (p : ℕ) : sProp 𝕄 := Ring.AtBΦ 2 (NB := 56) (ofreeP c) (oinflP c out) (oaheadP c) (odoneP c out) p

end Rings

variable (c : Dev nD) (X : Buf (Elt F) (xM.view.loc (c : Thread nD τ)))
  (arg2 : Memref sig .tc .vmem S192x256 .f32) (harg2 : arg2.IsWhole)
  (arg3 : Memref sig .tc .vmem S128x256 .f32) (harg3 : arg3.IsWhole)
  (arg4 : Memref sig .tc .vmem S128x256 .f32) (harg4 : arg4.IsWhole)
  (i : grid0.Coords) (out : Fin 56 → S1x16x224x24.Idx → Elt F .f32)
  (w2 : Buf (Elt F) (arg2.view.loc (c : Thread nD τ))) (w3 : Buf (Elt F) (arg3.view.loc (c : Thread nD τ)))
  (w4 : Buf (Elt F) (arg4.view.loc (c : Thread nD τ)))

/-- A step from its rings to the next step's. -/
def StepAt : Prop := ∀ (W) (Q : PUnit → sProp 𝕄),
    iprop(tables c arg2 arg3 arg4 w2 w3 w4 ∗ inR c X (i 0).val ∗ outR c out (i 0).val ∗ owes (c : Thread nD τ) 0 W
      ∗ ((tables c arg2 arg3 arg4 w2 w3 w4 ∗ inR c X ((i 0).val + 1) ∗ outR c out ((i 0).val + 1)
          ∗ ∃ W', owes (c : Thread nD τ) 0 W') -∗ Q PUnit.unit))
    ⊢ wp frame (wpE (defs₀ (F := F)) 𝒱₀ (c : Thread nD τ) none) Set.univ (bodyG arg2 harg2 arg3 harg3 arg4 harg4 i) Q

variable (hout : OutAt c X arg2 arg3 arg4 i out w2 w3 w4)
include hout

theorem step_first (h0 : (i 0).val = 0) : StepAt c X arg2 harg2 arg3 harg3 arg4 harg4 i out w2 w3 w4 := by
  intro W Q
  unfold inR outR
  rw [InRing.at_zero _ _ _ h0, InRing.at_pos _ _ _ (by omega), InRing.start_open _ _ _ h0, InRing.start_next _ _ _ _ h0,
    Ring.AtBΦ_lt _ _ _ _ _ _ (by omega), Ring.AtBΦ_lt _ _ _ _ _ _ (by omega), Ring.AtB2_zero' _ _ _ _ _ _ h0,
    Ring.AtB22_next_zero' _ _ _ _ _ h0]
  iintro ⟨HT, ⟨⟨X0, X1, X2, X3, XR⟩, I0, I1, I2⟩, ⟨⟨HO, HA⟩, O0, O1⟩, HW, HQ⟩
  iapply (first c X arg2 harg2 arg3 harg3 arg4 harg4 i out w2 w3 w4 h0 hout W Q)
  isplitl [HT]; · iexact HT
  isplitl [I0]; · iexact I0
  isplitl [X0]; · iexact X0
  isplitl [I1]; · iexact I1
  isplitl [X1]; · iexact X1
  isplitl [I2]; · iexact I2
  isplitl [X2]; · iexact X2
  isplitl [X3]; · iexact X3
  isplitl [O0]; · iexact O0
  isplitl [HO]; · iexact HO
  isplitl [HW]; · iexact HW
  iintro ⟨HT, X0, I1, I2, I0, O0, HW⟩
  iapply HQ
  isplitl [HT]; · iexact HT
  isplitl [X0 XR I0 I1 I2]
  · isplitl [X0 XR]
    · isplitl [X0]; · iexact X0
      iexact XR
    isplitl [I1]; · iexact I1
    isplitl [I2]; · iexact I2
    iexact I0
  isplitl [HA O0 O1]
  · isplitl [HA]; · iexact HA
    isplitl [O1]; · iexact O1
    iexact O0
  iexact HW

theorem step_second (h1 : (i 0).val = 1) : StepAt c X arg2 harg2 arg3 harg3 arg4 harg4 i out w2 w3 w4 := by
  intro W Q
  unfold inR outR
  rw [InRing.at_pos _ _ _ (by omega), InRing.at_pos _ _ _ (by omega), InRing.here _ _ _ _ (by omega), InRing.next _ _ _ _ (by omega),
    Ring.AtBΦ_lt _ _ _ _ _ _ (by omega), Ring.AtBΦ_lt _ _ _ _ _ _ (by omega), Ring.AtB22_one' _ _ _ _ _ h1 (by omega),
    Ring.AtB22_next_one' _ _ _ _ _ h1]
  iintro ⟨HT, ⟨⟨X3, XR⟩, I0, R1, R2⟩, ⟨⟨HO, HA⟩, O0, O1⟩, HW, HQ⟩
  iapply (second c X arg2 harg2 arg3 harg3 arg4 harg4 i out w2 w3 w4 h1 hout W Q)
  isplitl [HT]; · iexact HT
  isplitl [I0]; · iexact I0
  isplitl [X3]; · iexact X3
  isplitl [O0]; · iexact O0
  isplitl [HO]; · iexact HO
  isplitl [HW]; · iexact HW
  iintro ⟨HT, X0, I0, O0, HW⟩
  iapply HQ
  isplitl [HT]; · iexact HT
  isplitl [X0 XR I0 R1 R2]
  · isplitl [X0 XR]
    · isplitl [X0]; · iexact X0
      iexact XR
    isplitl [R1]; · iexact R1
    isplitl [R2]; · iexact R2
    iexact I0
  isplitl [HA O0 O1]
  · isplitl [HA]; · iexact HA
    isplitl [O1]; · iexact O1
    iexact O0
  iexact HW

theorem step_middle (h2 : 2 ≤ (i 0).val) (h3 : (i 0).val + 3 < 56) : StepAt c X arg2 harg2 arg3 harg3 arg4 harg4 i out w2 w3 w4 := by
  intro W Q
  unfold inR outR
  rw [InRing.at_pos _ _ _ (by omega), InRing.at_pos _ _ _ (by omega), InRing.here _ _ _ _ h3, InRing.next _ _ _ _ h3,
    Ring.AtBΦ_lt _ _ _ _ _ _ (by omega), Ring.AtBΦ_lt _ _ _ _ _ _ (by omega), Ring.AtB22_here _ _ _ _ _ h2 (by omega),
    Ring.AtB22_next _ _ _ _ _ h2 (by omega)]
  iintro ⟨HT, ⟨⟨X3, XR⟩, I0, R1, R2⟩, ⟨⟨HO, HA⟩, HB, O0, O1⟩, HW, HQ⟩
  iapply (middle c X arg2 harg2 arg3 harg3 arg4 harg4 i out w2 w3 w4 h2 h3 hout W Q)
  isplitl [HT]; · iexact HT
  isplitl [I0]; · iexact I0
  isplitl [X3]; · iexact X3
  isplitl [O0]; · iexact O0
  isplitl [HO]; · iexact HO
  isplitl [HW]; · iexact HW
  iintro ⟨HT, X0, I0, HD, O0, HW⟩
  iapply HQ
  isplitl [HT]; · iexact HT
  isplitl [X0 XR I0 R1 R2]
  · isplitl [X0 XR]
    · isplitl [X0]; · iexact X0
      iexact XR
    isplitl [R1]; · iexact R1
    isplitl [R2]; · iexact R2
    iexact I0
  isplitl [HA HB HD O0 O1]
  · isplitl [HA]; · iexact HA
    isplitl [HB HD]
    · isplitl [HD]; · iexact HD
      iexact HB
    isplitl [O1]; · iexact O1
    iexact O0
  iexact HW

theorem step_late (h2 : 2 ≤ (i 0).val) (h3 : ¬ (i 0).val + 3 < 56) (h4 : ¬ (i 0).val = 55) :
    StepAt c X arg2 harg2 arg3 harg3 arg4 harg4 i out w2 w3 w4 := by
  intro W Q
  have hi := step_lt i
  unfold inR outR
  rw [InRing.at_pos _ _ _ (by omega), InRing.at_pos _ _ _ (by omega), InRing.here_tail _ _ _ _ hi, InRing.next_tail _ _ _ _ hi h3,
    Ring.AtBΦ_lt _ _ _ _ _ _ (by omega), Ring.AtBΦ_lt _ _ _ _ _ _ (by omega), Ring.AtB22_here _ _ _ _ _ h2 (by omega),
    Ring.AtB22_next _ _ _ _ _ h2 (by omega)]
  iintro ⟨HT, ⟨XR, I0, R1, R2⟩, ⟨⟨HO, HA⟩, HB, O0, O1⟩, HW, HQ⟩
  iapply (late c X arg2 harg2 arg3 harg3 arg4 harg4 i out w2 w3 w4 h2 h3 h4 hout W Q)
  isplitl [HT]; · iexact HT
  isplitl [I0]; · iexact I0
  isplitl [O0]; · iexact O0
  isplitl [HO]; · iexact HO
  isplitl [HW]; · iexact HW
  iintro ⟨HT, X0, I0, HD, O0, HW⟩
  iapply HQ
  isplitl [HT]; · iexact HT
  isplitl [X0 XR I0 R1 R2]
  · isplitl [X0 XR]
    · isplitl [X0]; · iexact X0
      iexact XR
    isplitl [R1]; · iexact R1
    isplitl [R2]; · iexact R2
    iexact I0
  isplitl [HA HB HD O0 O1]
  · isplitl [HA]; · iexact HA
    isplitl [HB HD]
    · isplitl [HD]; · iexact HD
      iexact HB
    isplitl [O1]; · iexact O1
    iexact O0
  iexact HW

theorem step_last (h4 : (i 0).val = 55) : StepAt c X arg2 harg2 arg3 harg3 arg4 harg4 i out w2 w3 w4 := by
  intro W Q
  unfold inR outR
  rw [InRing.at_pos _ _ _ (by omega), InRing.at_pos _ _ _ (by omega), InRing.here_tail _ _ _ _ (by omega),
    InRing.next_tail _ _ _ _ (by omega) (by omega),
    Ring.AtBΦ_lt _ _ _ _ _ _ (by omega), Ring.AtBΦ_end _ _ _ _ _ ((i 0).val + 1) (by omega), Ring.AtB22_here_last _ _ _ _ _ (by omega) (by omega),
    Ring.AtB22_drained _ _ (i 0).val (by omega) (by omega)]
  iintro ⟨HT, ⟨XR, I0, R1, R2⟩, ⟨HO, HB, O0, O1⟩, HW, HQ⟩
  iapply (last c X arg2 harg2 arg3 harg3 arg4 harg4 i out w2 w3 w4 h4 hout W Q)
  isplitl [HT]; · iexact HT
  isplitl [I0]; · iexact I0
  isplitl [O0]; · iexact O0
  isplitl [O1]; · iexact O1
  isplitl [HO]; · iexact HO
  isplitl [HW]; · iexact HW
  iintro ⟨HT, X0, I0, D2, D1, D0, F1, F0, HW⟩
  iapply HQ
  isplitl [HT]; · iexact HT
  isplitl [X0 XR I0 R1 R2]
  · isplitl [X0 XR]
    · isplitl [X0]; · iexact X0
      iexact XR
    isplitl [R1]; · iexact R1
    isplitl [R2]; · iexact R2
    iexact I0
  isplitl [HB D0 D1 D2 F0 F1]
  · isplitl [HB D0 D1 D2]
    · isplitl [D0]; · iexact D0
      isplitl [D2]; · iexact D2
      isplitl [D1]; · iexact D1
      iexact HB
    isplitl [F0]; · iexact F0
    iexact F1
  iexact HW

/-- Every step takes its rings to the next step's. -/
theorem step : StepAt c X arg2 harg2 arg3 harg3 arg4 harg4 i out w2 w3 w4 := by
  have hi := step_lt i
  by_cases h0 : (i 0).val = 0
  · exact step_first c X arg2 harg2 arg3 harg3 arg4 harg4 i out w2 w3 w4 hout h0
  by_cases h1 : (i 0).val = 1
  · exact step_second c X arg2 harg2 arg3 harg3 arg4 harg4 i out w2 w3 w4 hout h1
  by_cases h3 : (i 0).val + 3 < 56
  · exact step_middle c X arg2 harg2 arg3 harg3 arg4 harg4 i out w2 w3 w4 hout (by omega) h3
  by_cases h4 : (i 0).val = 55
  · exact step_last c X arg2 harg2 arg3 harg3 arg4 harg4 i out w2 w3 w4 hout h4
  · exact step_late c X arg2 harg2 arg3 harg3 arg4 harg4 i out w2 w3 w4 hout (by omega) h3 h4

end Cert.Proof.PoolRing

end
-- ==== Proof.Blocks.lean ====
/-
  The arrays as their parts: the input and the result are their fifty-six blocks, the buffers their slots, and the array
  whose block `b` reads `out b` for every `b`.
-/
module

public import proofs.«01_k».proof.Proof.Body

@[expose] public section

set_option maxRecDepth 16384

noncomputable section

namespace Cert.Proof.PoolRing

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-! ## Element sets -/

abbrev XS (b : Fin 56) : Finset S4x224x224x192.Idx := (Rect.unit (s := S4x224x224x192) (blkOff b) S1x16x224x192.size (xOff_inb b)).set
abbrev OS (b : Fin 56) : Finset S4x224x224x24.Idx := (Rect.unit (s := S4x224x224x24) (blkOff b) S1x16x224x24.size (oOff_inb b)).set
abbrev IS (s : Fin 3) : Finset S3x1x16x224x192.Idx := (Rect.unit (s := S3x1x16x224x192) (slotOff s) S1x1x16x224x192.size (isOff_inb s)).set
abbrev TS (s : Fin 2) : Finset S2x1x16x224x24.Idx := (Rect.unit (s := S2x1x16x224x24) (slotOff s) S1x1x16x224x24.size (osOff_inb s)).set

theorem xblk_set (b : Fin 56) : (xblk b).view.set = XS b := View.set_slice_whole _ _
theorem oblk_set (b : Fin 56) : (oblk b).view.set = OS b := View.set_slice_whole _ _
theorem islot_set (s : Fin 3) : (islot s).view.set = IS s := (View.set_reshape _ _).trans (View.set_slice_whole _ _)
theorem oslot_set (s : Fin 2) : (oslot s).view.set = TS s := (View.set_reshape _ _).trans (View.set_slice_whole _ _)

/-- The elements of block `b`: image `b / 14`, rows `16 * (b % 14)` to `16 * (b % 14) + 15`. -/
theorem mem_XS (b : Fin 56) (y : S4x224x224x192.Idx) : y ∈ XS b ↔ (y 0).val * 14 + (y 1).val / 16 = b.val := by
  rw [Rect.mem_set_unit]
  have h0 : (y 0).val < 4 := (y 0).isLt
  have h1 : (y 1).val < 224 := (y 1).isLt
  have h2 : (y 2).val < 224 := (y 2).isLt
  have h3 : (y 3).val < 192 := (y 3).isLt
  constructor
  · intro H
    have a0 : b.val / 14 ≤ (y 0).val ∧ (y 0).val < b.val / 14 + 1 := H 0
    have a1 : (b.val % 14) * 16 ≤ (y 1).val ∧ (y 1).val < (b.val % 14) * 16 + 16 := H 1
    omega
  · intro H i; fin_cases i
    · show b.val / 14 ≤ (y 0).val ∧ (y 0).val < b.val / 14 + 1; omega
    · show (b.val % 14) * 16 ≤ (y 1).val ∧ (y 1).val < (b.val % 14) * 16 + 16; omega
    · show 0 ≤ (y 2).val ∧ (y 2).val < 0 + 224; omega
    · show 0 ≤ (y 3).val ∧ (y 3).val < 0 + 192; omega
theorem mem_OS (b : Fin 56) (y : S4x224x224x24.Idx) : y ∈ OS b ↔ (y 0).val * 14 + (y 1).val / 16 = b.val := by
  rw [Rect.mem_set_unit]
  have h0 : (y 0).val < 4 := (y 0).isLt
  have h1 : (y 1).val < 224 := (y 1).isLt
  have h2 : (y 2).val < 224 := (y 2).isLt
  have h3 : (y 3).val < 24 := (y 3).isLt
  constructor
  · intro H
    have a0 : b.val / 14 ≤ (y 0).val ∧ (y 0).val < b.val / 14 + 1 := H 0
    have a1 : (b.val % 14) * 16 ≤ (y 1).val ∧ (y 1).val < (b.val % 14) * 16 + 16 := H 1
    omega
  · intro H i; fin_cases i
    · show b.val / 14 ≤ (y 0).val ∧ (y 0).val < b.val / 14 + 1; omega
    · show (b.val % 14) * 16 ≤ (y 1).val ∧ (y 1).val < (b.val % 14) * 16 + 16; omega
    · show 0 ≤ (y 2).val ∧ (y 2).val < 0 + 224; omega
    · show 0 ≤ (y 3).val ∧ (y 3).val < 0 + 24; omega
theorem mem_IS (s : Fin 3) (y : S3x1x16x224x192.Idx) : y ∈ IS s ↔ (y 0).val = s.val := by
  rw [Rect.mem_set_unit]
  have h1 : (y 1).val < 1 := (y 1).isLt
  have h2 : (y 2).val < 16 := (y 2).isLt
  have h3 : (y 3).val < 224 := (y 3).isLt
  have h4 : (y 4).val < 192 := (y 4).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 16; omega
    · show 0 ≤ (y 3).val ∧ (y 3).val < 0 + 224; omega
    · show 0 ≤ (y 4).val ∧ (y 4).val < 0 + 192; omega
theorem mem_TS (s : Fin 2) (y : S2x1x16x224x24.Idx) : y ∈ TS s ↔ (y 0).val = s.val := by
  rw [Rect.mem_set_unit]
  have h1 : (y 1).val < 1 := (y 1).isLt
  have h2 : (y 2).val < 16 := (y 2).isLt
  have h3 : (y 3).val < 224 := (y 3).isLt
  have h4 : (y 4).val < 24 := (y 4).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 1; omega
    · show 0 ≤ (y 2).val ∧ (y 2).val < 0 + 16; omega
    · show 0 ≤ (y 3).val ∧ (y 3).val < 0 + 224; omega
    · show 0 ≤ (y 4).val ∧ (y 4).val < 0 + 24; omega

/-- Sets told apart by a number of their elements are disjoint; -/
theorem disjoint_of_mem {α : Type} {n : ℕ} {S : Fin n → Finset α} {k : α → ℕ} (h : ∀ b y, y ∈ S b ↔ k y = b.val) :
    ∀ b b', b ≠ b' → Disjoint (S b) (S b') := by
  intro b b' hne; rw [Finset.disjoint_left]; intro y hy hy'
  exact hne (Fin.ext (((h b y).mp hy).symm.trans ((h b' y).mp hy')))
/-- they cover, where every element has its number. -/
theorem cover_of_mem {α : Type} [Fintype α] [DecidableEq α] {n : ℕ} {S : Fin n → Finset α} {k : α → ℕ} (h : ∀ b y, y ∈ S b ↔ k y = b.val)
    (hk : ∀ y, k y < n) : (Finset.univ : Finset (Fin n)).biUnion S = Finset.univ := by
  ext y; simp only [Finset.mem_biUnion, Finset.mem_univ, true_and, iff_true]; exact ⟨⟨k y, hk y⟩, (h _ y).mpr rfl⟩

theorem XS_lt (y : S4x224x224x192.Idx) : (y 0).val * 14 + (y 1).val / 16 < 56 := by
  have h0 : (y 0).val < 4 := (y 0).isLt
  have h1 : (y 1).val < 224 := (y 1).isLt
  omega
theorem OS_lt (y : S4x224x224x24.Idx) : (y 0).val * 14 + (y 1).val / 16 < 56 := by
  have h0 : (y 0).val < 4 := (y 0).isLt
  have h1 : (y 1).val < 224 := (y 1).isLt
  omega

/-! ## The array of the blocks -/

/-- The block element `y` of the result lies in, -/
def blkOf (y : S4x224x224x24.Idx) : Fin 56 := ⟨(y 0).val * 14 + (y 1).val / 16, OS_lt y⟩
/-- and where in it. -/
def inBlk (y : S4x224x224x24.Idx) : S1x16x224x24.Idx := fun a => match a with
  | ⟨0, _⟩ => ⟨0, Nat.one_pos⟩
  | ⟨1, _⟩ => ⟨(y 1).val % 16, Nat.mod_lt _ (by decide)⟩
  | ⟨2, _⟩ => y 2
  | ⟨3, _⟩ => y 3
/-- The array whose block `b` is `out b`. -/
def arrOf {α : Type} (out : Fin 56 → S1x16x224x24.Idx → α) : S4x224x224x24.Idx → α := fun y => out (blkOf y) (inBlk y)

theorem read_arrOf (out : Fin 56 → S1x16x224x24.Idx → Elt F .f32) (b : Fin 56) : (oblk b).view.read (Elt F) (arrOf out) = out b := by
  funext j
  have hb := b.isLt
  have h0 : (j 0).val < 1 := (j 0).isLt
  have h1 : (j 1).val < 16 := (j 1).isLt
  have e0 : (((Rect.unit (s := S4x224x224x24) (blkOff b) S1x16x224x24.size (oOff_inb b)).emb j) 0).val = b.val / 14 + 1 * (j 0).val := rfl
  have e1 : (((Rect.unit (s := S4x224x224x24) (blkOff b) S1x16x224x24.size (oOff_inb b)).emb j) 1).val = (b.val % 14) * 16 + 1 * (j 1).val := rfl
  have e2 : (((Rect.unit (s := S4x224x224x24) (blkOff b) S1x16x224x24.size (oOff_inb b)).emb j) 2).val = 0 + 1 * (j 2).val := rfl
  have e3 : (((Rect.unit (s := S4x224x224x24) (blkOff b) S1x16x224x24.size (oOff_inb b)).emb j) 3).val = 0 + 1 * (j 3).val := rfl
  show arrOf out ((Rect.unit (s := S4x224x224x24) (blkOff b) S1x16x224x24.size (oOff_inb b)).emb j) = out b j
  generalize (Rect.unit (s := S4x224x224x24) (blkOff b) S1x16x224x24.size (oOff_inb b)).emb j = y at *
  unfold arrOf
  have hB : blkOf y = b := Fin.ext (by unfold blkOf; show (y 0).val * 14 + (y 1).val / 16 = b.val; omega)
  have hJ : inBlk y = j := by
    funext a; fin_cases a
    · exact Fin.ext (by show 0 = (j 0).val; omega)
    · exact Fin.ext (by show (y 1).val % 16 = (j 1).val; omega)
    · exact Fin.ext (by show (y 2).val = (j 2).val; omega)
    · exact Fin.ext (by show (y 3).val = (j 3).val; omega)
  rw [hB, hJ]

/-! ## Arrays and buffers split into their parts, and joined -/

section Split
variable (c : Dev nD)

omit [FloatOps F] in
theorem xP_eq (X) (b : Fin 56) : xP c X b = (((c : Thread nD τ).loc main_arg0) ↦[XS b]{fullShare} X : sProp 𝕄) :=
  congrArg (fun S => (_ ↦[S]{fullShare} X : sProp 𝕄)) (xblk_set b)
omit [FloatOps F] in
theorem oP_eq (f) (b : Fin 56) : oP c b f = (((c : Thread nD τ).loc main_v0) ↦[OS b]{fullShare} f : sProp 𝕄) :=
  congrArg (fun S => (_ ↦[S]{fullShare} f : sProp 𝕄)) (oblk_set b)
omit [FloatOps F] in
theorem islotP_eq (f) (s : Fin 3) : islotP c s f = (((c : Thread nD τ).loc cc0_scratch0) ↦[IS s]{fullShare} f : sProp 𝕄) :=
  congrArg (fun S => (_ ↦[S]{fullShare} f : sProp 𝕄)) (islot_set s)
omit [FloatOps F] in
theorem oslotP_eq (f) (s : Fin 2) : oslotP c s f = (((c : Thread nD τ).loc cc0_scratch1) ↦[TS s]{fullShare} f : sProp 𝕄) :=
  congrArg (fun S => (_ ↦[S]{fullShare} f : sProp 𝕄)) (oslot_set s)

/-- The input whole is its blocks. -/
theorem x_eq (X : Buf (Elt F) ((c : Thread nD τ).loc main_arg0)) :
    (((c : Thread nD τ).loc main_arg0) ↦{fullShare} X : sProp 𝕄) = bigSep Finset.univ (xP c X) := by
  rw [Ring.pointsTo_blocks (ℓ := (c : Thread nD τ).loc main_arg0) XS (disjoint_of_mem mem_XS) (cover_of_mem mem_XS XS_lt)]
  exact BI.bigSep_congr fun b _ => (xP_eq c X b).symm
/-- The result whole is its blocks. -/
theorem o_eq (f : Buf (Elt F) ((c : Thread nD τ).loc main_v0)) :
    (((c : Thread nD τ).loc main_v0) ↦{fullShare} f : sProp 𝕄) = bigSep Finset.univ fun b => oP c b f := by
  rw [Ring.pointsTo_blocks (ℓ := (c : Thread nD τ).loc main_v0) OS (disjoint_of_mem mem_OS) (cover_of_mem mem_OS OS_lt)]
  exact BI.bigSep_congr fun b _ => (oP_eq c f b).symm

theorem ahead_of (b : Fin 56) (f) : (oP c b f : sProp 𝕄) ⊢ oaheadP c b := by
  unfold oaheadP; iintro H; iexists f; iexact H
/-- A block held at contents `f` is held at any contents that read the same through it. -/
theorem oP_congr (b : Fin 56) (f g : Buf (Elt F) ((oblk b).view.loc (c : Thread nD τ)))
    (h : (oblk b).view.read (Elt F) f = (oblk b).view.read (Elt F) g) : (oP c b f : sProp 𝕄) = oP c b g := by
  unfold oP
  rw [pointsTo_rep (c : Thread nD τ) (oblk b) f, pointsTo_rep (c : Thread nD τ) (oblk b) g, h]
theorem done_at (out : Fin 56 → S1x16x224x24.Idx → Elt F .f32) (b : Fin 56) : (odoneP c out b : sProp 𝕄) ⊢ oP c b (arrOf out) := by
  unfold odoneP
  iintro ⟨%f, %hf, H⟩
  iapply (entails_of_eq (oP_congr c b f (arrOf out) (hf.trans (read_arrOf out b).symm)))
  iexact H

/-- At launch every block of the result is ahead. -/
theorem o_ahead (f : Buf (Elt F) ((c : Thread nD τ).loc main_v0)) :
    (((c : Thread nD τ).loc main_v0) ↦{fullShare} f : sProp 𝕄) ⊢ bigSep Finset.univ (oaheadP (F := F) c) := by
  rw [o_eq]
  exact BI.bigSep_mono fun b _ => ahead_of c b f

/-- When every block of the result is done, the result is the array of the blocks. -/
theorem o_done (out : Fin 56 → S1x16x224x24.Idx → Elt F .f32) :
    bigSep Finset.univ (odoneP c out) ⊢ (((c : Thread nD τ).loc main_v0) ↦{fullShare} (arrOf out) : sProp 𝕄) := by
  rw [o_eq]
  exact BI.bigSep_mono fun b _ => done_at c out b

/-- The input buffer whole is its three slots, -/
theorem ibuf_split :
    iprop(∃ f : Buf (Elt F) ((c : Thread nD τ).loc cc0_scratch0), ((c : Thread nD τ).loc cc0_scratch0) ↦{fullShare} f)
      ⊢ (iprop((∃ f, islotP c 0 f) ∗ (∃ f, islotP c 1 f) ∗ ∃ f, islotP c 2 f) : sProp 𝕄) := by
  iintro ⟨%f, H⟩
  ihave H2 := (entails_of_eq ((Ring.pointsTo_blocks (Ix := Unit) (Name := ℕ) (U := UU nD τ) (Lvl := ℕ) (q := fullShare)
    (ℓ := (c : Thread nD τ).loc cc0_scratch0) IS (disjoint_of_mem mem_IS) (cover_of_mem mem_IS fun y => (y 0).isLt) f).trans (Ring.bigSep_fin3 _))) $$ H
  icases H2 with ⟨H0, H1, H2⟩
  isplitl [H0]
  · iexists f; iapply (entails_of_eq (islotP_eq c f 0).symm); iexact H0
  isplitl [H1]
  · iexists f; iapply (entails_of_eq (islotP_eq c f 1).symm); iexact H1
  · iexists f; iapply (entails_of_eq (islotP_eq c f 2).symm); iexact H2
/-- and back. -/
theorem ibuf_join :
    iprop((∃ f, islotP c 0 f) ∗ (∃ f, islotP c 1 f) ∗ ∃ f, islotP c 2 f)
      ⊢ (iprop(∃ f : Buf (Elt F) ((c : Thread nD τ).loc cc0_scratch0), ((c : Thread nD τ).loc cc0_scratch0) ↦{fullShare} f) : sProp 𝕄) := by
  iintro ⟨⟨%f0, H0⟩, ⟨%f1, H1⟩, ⟨%f2, H2⟩⟩
  iapply (Ring.pointsTo_blocks_join_exists (ℓ := (c : Thread nD τ).loc cc0_scratch0) IS (disjoint_of_mem mem_IS) (cover_of_mem mem_IS fun y => (y 0).isLt) f0)
  irw [Ring.bigSep_fin3]
  isplitl [H0]
  · iexists f0; iapply (entails_of_eq (islotP_eq c f0 0)); iexact H0
  isplitl [H1]
  · iexists f1; iapply (entails_of_eq (islotP_eq c f1 1)); iexact H1
  · iexists f2; iapply (entails_of_eq (islotP_eq c f2 2)); iexact H2

/-- The output buffer whole is its two slots, -/
theorem obuf_split :
    iprop(∃ f : Buf (Elt F) ((c : Thread nD τ).loc cc0_scratch1), ((c : Thread nD τ).loc cc0_scratch1) ↦{fullShare} f)
      ⊢ (iprop((∃ f, oslotP c 0 f) ∗ ∃ f, oslotP c 1 f) : sProp 𝕄) := by
  iintro ⟨%f, H⟩
  ihave H2 := (entails_of_eq ((Ring.pointsTo_blocks (Ix := Unit) (Name := ℕ) (U := UU nD τ) (Lvl := ℕ) (q := fullShare)
    (ℓ := (c : Thread nD τ).loc cc0_scratch1) TS (disjoint_of_mem mem_TS) (cover_of_mem mem_TS fun y => (y 0).isLt) f).trans (Ring.bigSep_fin2 _))) $$ H
  icases H2 with ⟨H0, H1⟩
  isplitl [H0]
  · iexists f; iapply (entails_of_eq (oslotP_eq c f 0).symm); iexact H0
  · iexists f; iapply (entails_of_eq (oslotP_eq c f 1).symm); iexact H1
/-- and back. -/
theorem obuf_join :
    iprop((∃ f, oslotP c 0 f) ∗ ∃ f, oslotP c 1 f)
      ⊢ (iprop(∃ f : Buf (Elt F) ((c : Thread nD τ).loc cc0_scratch1), ((c : Thread nD τ).loc cc0_scratch1) ↦{fullShare} f) : sProp 𝕄) := by
  iintro ⟨⟨%f0, H0⟩, ⟨%f1, H1⟩⟩
  iapply (Ring.pointsTo_blocks_join_exists (ℓ := (c : Thread nD τ).loc cc0_scratch1) TS (disjoint_of_mem mem_TS) (cover_of_mem mem_TS fun y => (y 0).isLt) f0)
  irw [Ring.bigSep_fin2]
  isplitl [H0]
  · iexists f0; iapply (entails_of_eq (oslotP_eq c f0 0)); iexact H0
  · iexists f1; iapply (entails_of_eq (oslotP_eq c f1 1)); iexact H1

end Split

end Cert.Proof.PoolRing

end
-- ==== Proof.Tables.lean ====
/-
  What the three windows hold at every step: the weight tables, as the host operations before the kernel write them.
-/
module

public import proofs.«01_k».proof.Proof.Blocks
public import proofs.«01_k».proof.Proof.Gen.KernelIdeal.Frame
public import Idealize.ShloMosaic.Lib.Claim

@[expose] public section

set_option maxRecDepth 16384

noncomputable section

namespace Cert.Proof.PoolRing

open Cert.KernelIdeal Cert.KernelIdeal.Gen
open Idealize.ShloMosaic
open Idealize.ShloMosaic.TcCoe Idealize.ShloMosaic.Tactic

variable {F : FTy → Type} [FloatOps F]

/-- The first level's table, -/
def tab1 : Vec F S192x256 .f32 := fun i => FloatOps.ofBits .f32 (lit0 (S192x256.rowMajor i))
/-- the second's, -/
def tab2 : Vec F S128x256 .f32 := fun i => FloatOps.ofBits .f32 (lit1 (S128x256.rowMajor i))
/-- the third's. -/
def tab3 : Vec F S128x256 .f32 := fun i => FloatOps.ofBits .f32 (lit2 (S128x256.rowMajor i))

variable (m : (ℓ : Loc nD τ sig) → Buf (Elt F) ℓ) (c : Dev nD)

theorem V_tab1 : V m c main_call0_cst = (tab1 : Vec F S192x256 .f32) := by
  entry_read
  rfl

/-- Window 0 holds table 1 at every step. -/
theorem iblk_tab1 (t : Fin cfg0.N) : iblk m c 0 t = (tab1 : Vec F S192x256 .f32) := by
  rw [← V_tab1 m c]
  funext j
  refine congrArg (V m c main_call0_cst) (funext fun a => ?_)
  fin_cases a
  · exact Fin.ext (show 0 * 192 + 1 * (j 0).val = (j 0).val by omega)
  · exact Fin.ext (show 0 * 256 + 1 * (j 1).val = (j 1).val by omega)

theorem V_tab2 : V m c main_call0_cst_0 = (tab2 : Vec F S128x256 .f32) := by
  entry_read
  rfl

/-- Window 1 holds table 2 at every step. -/
theorem iblk_tab2 (t : Fin cfg0.N) : iblk m c 1 t = (tab2 : Vec F S128x256 .f32) := by
  rw [← V_tab2 m c]
  funext j
  refine congrArg (V m c main_call0_cst_0) (funext fun a => ?_)
  fin_cases a
  · exact Fin.ext (show 0 * 128 + 1 * (j 0).val = (j 0).val by omega)
  · exact Fin.ext (show 0 * 256 + 1 * (j 1).val = (j 1).val by omega)

theorem V_tab3 : V m c main_call0_cst_1 = (tab3 : Vec F S128x256 .f32) := by
  entry_read
  rfl

/-- Window 2 holds table 3 at every step. -/
theorem iblk_tab3 (t : Fin cfg0.N) : iblk m c 2 t = (tab3 : Vec F S128x256 .f32) := by
  rw [← V_tab3 m c]
  funext j
  refine congrArg (V m c main_call0_cst_1) (funext fun a => ?_)
  fin_cases a
  · exact Fin.ext (show 0 * 128 + 1 * (j 0).val = (j 0).val by omega)
  · exact Fin.ext (show 0 * 256 + 1 * (j 1).val = (j 1).val by omega)

end Cert.Proof.PoolRing

end
-- ==== Proof.Launch.lean ====
/-
  The kernel's run: from any memory with zero counters it terminates, the result holds the blocks' values, the input is
  as it was, and every counter is at zero again.
-/
module

public import proofs.«01_k».proof.Proof.Step
public import proofs.«01_k».proof.Proof.Tables
public import Idealize.ShloMosaic.Lib.Pipeline.KitQuiescent

@[expose] public section

set_option maxRecDepth 16384

noncomputable section

namespace Cert.Proof.PoolRing

open Cert.KernelIdeal Cert.KernelIdeal.Gen
open Idealize.ShloMosaic Idealize.ShloMosaic.Pipeline
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

/-- Block `b` of the result, from the input and the three tables. -/
def outOf (X : S4x224x224x192.Idx → Elt F .f32) (b : Fin 56) : S1x16x224x24.Idx → Elt F .f32 :=
  outv ((xblk b).view.read (Elt F) X) tab1 tab2 tab3

variable (m : (ℓ : Loc nD τ sig) → Buf (Elt F) ℓ) (ρ : Dev nD → PrngReg)

/-- The input at launch. -/
abbrev inX (c : Dev nD) : Buf (Elt F) (xM.view.loc (c : Thread nD τ)) := m ((c : Thread nD τ).loc main_arg0)

/-! ## The kernel's own semaphores: three for the input's slots, two for the result's -/

abbrev ownSem : Fin 5 → SemLoc sig
  | ⟨0, _⟩ => .dma (isem 0).sem
  | ⟨1, _⟩ => .dma (isem 1).sem
  | ⟨2, _⟩ => .dma (isem 2).sem
  | ⟨3, _⟩ => .dma (osem 0).sem
  | ⟨4, _⟩ => .dma (osem 1).sem
theorem ownSemFacts : Pipeline.OwnSemFacts spec0 ownSem := by decide

omit [FloatOps F] in
theorem ownSems0_eq (c : Dev nD) : (Pipeline.ownSems0 (Ix := Unit) (Name := ℕ) (U := UU nD τ) (Lvl := ℕ) (Val := Elt F) (τ := τ) ownSem c : sProp 𝕄)
    = iprop(icellP c 0 ∗ icellP c 1 ∗ icellP c 2 ∗ ocellP c 0 ∗ ocellP c 1) := by
  unfold Pipeline.ownSems0
  rw [bigSep_univ_eq_bigSepL [(0 : Fin 5), 1, 2, 3, 4] (by decide) (by decide)]
  rfl

/-! ## The pipeline's data: the windows hold the tables throughout -/

/-- The two rings before step `t`. -/
def rings (c : Dev nD) (t : ℕ) : sProp 𝕄 := iprop(inR c (inX m c) t ∗ outR c (outOf (inX m c)) t)

def dats (_ : Fin 1) (c : Dev nD) : Dat τ (Elt F) Unit ℕ (UU nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := rings m c t.val
  q _ := fullShare
  owed _ := 0

theorem after_w0 (c : Dev nD) (t : Fin cfg0.N) : (dats m 0 c).after 0 t = iblk m c 0 t := by dsimp only [dats]
theorem after_w1 (c : Dev nD) (t : Fin cfg0.N) : (dats m 0 c).after 1 t = iblk m c 1 t := by dsimp only [dats]
theorem after_w2 (c : Dev nD) (t : Fin cfg0.N) : (dats m 0 c).after 2 t = iblk m c 2 t := by dsimp only [dats]
theorem A_w (c : Dev nD) (w : Fin cfg0.W) : (dats m 0 c).A w = V m c (Pipeline.arrRef spec0 w) := by dsimp only [dats]

/-- A window the body leaves as it is holds its block at every step. -/
theorem before_w0 (c : Dev nD) (t : Fin cfg0.N) (d) : (dats m 0 c).before 0 t d = iblk m c 0 t :=
  ((dats m 0 c).before_in_eq_fetched 0 rfl (fun _ => rfl) (fun _ _ _ => rfl)
    (fun t => by rw [after_w0]; unfold Dat.blockOf iblk; rw [A_w]; try rfl) t d).trans (by unfold Dat.fetched Dat.blockOf iblk; rw [A_w]; try rfl)
theorem before_w1 (c : Dev nD) (t : Fin cfg0.N) (d) : (dats m 0 c).before 1 t d = iblk m c 1 t :=
  ((dats m 0 c).before_in_eq_fetched 1 rfl (fun _ => rfl) (fun _ _ _ => rfl)
    (fun t => by rw [after_w1]; unfold Dat.blockOf iblk; rw [A_w]; try rfl) t d).trans (by unfold Dat.fetched Dat.blockOf iblk; rw [A_w]; try rfl)
theorem before_w2 (c : Dev nD) (t : Fin cfg0.N) (d) : (dats m 0 c).before 2 t d = iblk m c 2 t :=
  ((dats m 0 c).before_in_eq_fetched 2 rfl (fun _ => rfl) (fun _ _ _ => rfl)
    (fun t => by rw [after_w2]; unfold Dat.blockOf iblk; rw [A_w]; try rfl) t d).trans (by unfold Dat.fetched Dat.blockOf iblk; rw [A_w]; try rfl)

theorem coords_val : ∀ t : Fin cfg0.N, (grid0.coords t 0).val = t.val := by decide +kernel

theorem defs_tc : (defs₀ (F := F)) .tc cfg0.body
    = fun a => bodyG (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (grid0.coords a.1) := rfl
theorem prog_eq (t : Fin cfg0.N) : (defs₀ (F := F)) .tc cfg0.body (cfg0.bodyArgs t (cfg0.slots t))
    = bodyG (st0_0 t) (hstage0_0 ((cfg0.slots t 0).cast nbuf0_0)) (st0_1 t) (hstage0_1 ((cfg0.slots t 1).cast nbuf0_1))
        (st0_2 t) (hstage0_2 ((cfg0.slots t 2).cast nbuf0_2)) (grid0.coords t) :=
  (congrFun defs_tc _).trans rfl

/-- The tables in the windows give the blocks' values. -/
theorem out_at (c : Dev nD) (t : Fin cfg0.N) :
    OutAt c (inX m c) (st0_0 t) (st0_1 t) (st0_2 t) (grid0.coords t) (outOf (inX m c))
      ((st0_0 t).view.rep (iblk m c 0 t)) ((st0_1 t).view.rep (iblk m c 1 t)) ((st0_2 t).view.rep (iblk m c 2 t)) := by
  unfold OutAt outOf
  rw [View.read_rep, View.read_rep, View.read_rep, iblk_tab1, iblk_tab2, iblk_tab3]

set_option backward.isDefEq.respectTransparency.types false in
/-- Each step, from the windows and the rings, to the windows and the rings after it. -/
theorem body_obligation (c : Dev nD) : BodyObligation (dats (F := F) m 0 c) (defs₀ (F := F)) 𝒱₀ () Set.univ := fun t => by
  rw [bigSep_W0, bigSep_W0]
  dsimp only
  simp only [before_w0, before_w1, before_w2, after_w0, after_w1, after_w2]
  rw [show (dats m 0 c).Φ t.castSucc = rings m c t.val from rfl, show (dats m 0 c).Φ t.succ = rings m c (t.val + 1) from rfl]
  unfold Dat.owesAt Pipeline.owesWithin
  rw [show (dats m 0 c).owed t.castSucc = 0 from rfl, show (dats m 0 c).owed t.succ = 0 from rfl]
  unfold owns rings
  rw [← coords_val t]
  iintro ⟨⟨HI, HO⟩, ⟨%W, -, HW⟩, ⟨%d0, %g0, %hg0, H0⟩, ⟨%d1, %g1, %hg1, H1⟩, ⟨%d2, %g2, %hg2, H2⟩⟩
  ihave H0' := (pointsTo_rep_entails (c : Thread nD τ) (st0_0 t) g0 fullShare) $$ H0
  ihave H1' := (pointsTo_rep_entails (c : Thread nD τ) (st0_1 t) g1 fullShare) $$ H1
  ihave H2' := (pointsTo_rep_entails (c : Thread nD τ) (st0_2 t) g2 fullShare) $$ H2
  rw [hg0, hg1, hg2]
  sl_rw [prog_eq t]
  iapply (step c (inX m c) (st0_0 t) _ (st0_1 t) _ (st0_2 t) _ (grid0.coords t) (outOf (inX m c)) _ _ _ (out_at m c t) W _)
  unfold tables
  isplitl [H0' H1' H2']
  · isplitl [H0']; · iexact H0'
    isplitl [H1']; · iexact H1'
    iexact H2'
  isplitl [HI]; · iexact HI
  isplitl [HO]; · iexact HO
  isplitl [HW]; · iexact HW
  iintro ⟨⟨H0, H1, H2⟩, HI, HO, ⟨%W', HW⟩⟩
  isplitl [HI HO]
  · isplitl [HI]; · iexact HI
    iexact HO
  isplitl [HW]
  · iexists W'; isplitr; · ipureintro; exact fun _ _ => Or.inl trivial
    iexact HW
  isplitl [H0]
  · iexists _; isplitr; · ipureintro; exact View.read_rep _ _
    iexact H0
  isplitl [H1]
  · iexists _; isplitr; · ipureintro; exact View.read_rep _ _
    iexact H1
  iexists _; isplitr; · ipureintro; exact View.read_rep _ _
  iexact H2

/-! ## The run -/

/-- What the kernel takes in beside the buffers it allocates: the input, the result's array and its semaphores. -/
def takes (c : Dev nD) : sProp 𝕄 :=
  iprop(bigSep Finset.univ (xP c (inX m c)) ∗ bigSep Finset.univ (oaheadP (F := F) c) ∗ Pipeline.ownSems0 ownSem c)
/-- What it hands back: the input, and the result at its value. -/
def givesBack (c : Dev nD) : sProp 𝕄 :=
  iprop((((c : Thread nD τ).loc main_arg0) ↦{fullShare} inX m c) ∗ (((c : Thread nD τ).loc main_v0) ↦{fullShare} arrOf (outOf (inX m c))))
def u₀ : UU nD τ := (initOf (Pipeline.cells cfgs cellOf_inj) (Pipeline.launchToks cfgs cellOf_inj), 1)
/-- What the final memory holds on core `c`. -/
def Post (c : Dev nD) (s : MemSt nD τ sig (Elt F)) : Prop :=
  s.mem ((c : Thread nD τ).loc main_arg0) = inX m c ∧ s.mem ((c : Thread nD τ).loc main_v0) = arrOf (outOf (inX m c))

set_option maxHeartbeats 800000 in
theorem prefix_run : Pipeline.HMain (Ix := Unit) (Name := ℕ) (U := UU nD τ) (Lvl := ℕ) cfgs 0 defs₀ 𝒱₀ m (main (F := F)) (V m) :=
  Pipeline.hmain_prefix cfgs 0 defs₀ 𝒱₀ m main hostOps0 hostOps0_sub hostOps0_fresh main_chain

/-- The buffers and semaphores at entry are the rings before step 0. -/
theorem enter (c : Dev nD) :
    iprop(bigSep Finset.univ (xP c (inX m c)) ∗ bigSep Finset.univ (oaheadP (F := F) c)
        ∗ (icellP c 0 ∗ icellP c 1 ∗ icellP c 2 ∗ ocellP c 0 ∗ ocellP c 1)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ⊢ (rings m c 0 : sProp 𝕄) := by
  unfold rings inR outR
  rw [InRing.at_zero _ _ _ rfl, Ring.AtBΦ_lt _ _ _ _ _ _ (by decide), Ring.AtB_zero]
  unfold InRing.start Ring.AtB₀
  rw [Ring.bigSep_fin2]
  unfold ifreeP ofreeP
  iintro ⟨HX, HA, ⟨I0, I1, I2, O0, O1⟩, HB, HC⟩
  ihave HB' := (ibuf_split c) $$ HB
  icases HB' with ⟨B0, B1, B2⟩
  ihave HC' := (obuf_split c) $$ HC
  icases HC' with ⟨C0, C1⟩
  isplitl [HX I0 B0 I1 B1 I2 B2]
  · isplitl [HX]; · iexact HX
    isplitl [I0 B0]
    · isplitl [I0]; · iexact I0
      iexact B0
    isplitl [I1 B1]
    · isplitl [I1]; · iexact I1
      iexact B1
    isplitl [I2]; · iexact I2
    iexact B2
  isplitl [HA]; · iexact HA
  isplitl [O0 C0]
  · isplitl [O0]; · iexact O0
    iexact C0
  isplitl [O1]; · iexact O1
  iexact C1

/-- The rings after the last step are the buffers and semaphores again, the input, and the result at its value. -/
theorem leave (c : Dev nD) :
    (rings m c 56 : sProp 𝕄)
      ⊢ iprop(givesBack m c ∗ (icellP c 0 ∗ icellP c 1 ∗ icellP c 2 ∗ ocellP c 0 ∗ ocellP c 1)
        ∗ (∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f)) := by
  unfold rings inR outR
  rw [InRing.at_pos _ _ _ (by decide), InRing.finish, Ring.AtBΦ_end _ _ _ _ _ 56 rfl]
  unfold Ring.AtBEnd
  rw [Ring.bigSep_fin2]
  unfold ifreeP ofreeP givesBack
  rw [x_eq]
  iintro ⟨⟨HX, ⟨I2, B2⟩, ⟨I0, B0⟩, I1, B1⟩, HD, ⟨O0, C0⟩, O1, C1⟩
  isplitl [HX HD]
  · isplitl [HX]; · iexact HX
    iapply (o_done c (outOf (inX m c))); iexact HD
  isplitl [I0 I1 I2 O0 O1]
  · isplitl [I0]; · iexact I0
    isplitl [I1]; · iexact I1
    isplitl [I2]; · iexact I2
    isplitl [O0]; · iexact O0
    iexact O1
  isplitl [B0 B1 B2]
  · iapply (ibuf_join c)
    isplitl [B0]; · iexact B0
    isplitl [B1]; · iexact B1
    iexact B2
  iapply (obuf_join c)
  isplitl [C0]; · iexact C0
  iexact C1

set_option backward.isDefEq.respectTransparency.types false in
/-- For any float values, from any memory with zero counters: every weakly fair execution of the kernel terminates, and
    every final state has the input as it was, the result at the blocks' values and every counter at zero. -/
theorem run_main : θ_run defs (onTc (τ := τ) (main (F := F))) ⟨m, fun _ => 0, ρ⟩ (fun r => (∀ c : Dev nD, Post m c r.2) ∧ r.2.sem = fun _ => 0) :=
  Pipeline.θ_run_region_kit_quiescent cfgs (dats m) () (0 : Fin 1) launch0 ownSemFacts EP defs₀ 𝒱₀ m ρ main
    (hbody := fun c => (body_obligation m c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := prefix_run m)
    (hA := fun _ _ => rfl)
    (X := takes m) (Y := givesBack m) (Z := fun _ => iprop(emp))
    (hX := fun c => by
      rw [unscopedRest0_eq, V_main_arg0, x_eq c (inX m c)]
      unfold takes
      iintro ⟨⟨H0, H1⟩, HS, -, -, -⟩; imodintro
      ihave H1' := (o_ahead c _) $$ H1
      isplitl [H0 H1' HS]
      · isplitl [H0]; · iexact H0
        isplitl [H1']; · iexact H1'
        iexact HS
      iempintro)
    (hin := fun c => by
      rw [scopedRest0_eq, show (dats m 0 c).Φ 0 = rings m c 0 from rfl]
      unfold takes; rw [ownSems0_eq]
      iintro ⟨⟨HX, HA, HS⟩, HB, HC⟩
      iapply (enter m c)
      isplitl [HX]; · iexact HX
      isplitl [HA]; · iexact HA
      isplitl [HS]; · iexact HS
      isplitl [HB]; · iexact HB
      iexact HC)
    (hout := fun c => by
      rw [scopedRest0_eq, show (dats m 0 c).Φ (Fin.last cfg0.N) = rings m c 56 from rfl, ownSems0_eq]
      iintro H
      iapply (leave m c); iexact H)
    (QY := Post m)
    (hY := fun c s' => by
      unfold givesBack
      iintro ⟨⟨H0, H1⟩, -, HSI⟩
      icombine HSI H0 gives %h0
      icombine HSI H1 gives %h1
      imodintro
      isplitr; · ipureintro; exact ⟨Buf.eq_of_forall_mem_univ h0, Buf.eq_of_forall_mem_univ h1⟩
      iexact HSI)
    (hQ := fun _ hh hz => ⟨fun c => (hh c).2, hz⟩)

end Cert.Proof.PoolRing

end
-- ==== Proof.Frames.lean ====
/-
  The frames: the kernel as printed and its idealization are one program's text, so one run gives both.
-/
module

public import proofs.«01_k».proof.Defs
public import proofs.«01_k».proof.Proof.Launch
public import proofs.«01_k».proof.Proof.Gen.Kernel
public import proofs.«01_k».proof.Proof.Gen.Pre_above_bottom
public import Idealize.ShloMosaic.Lib.Tactic

@[expose] public section

set_option maxRecDepth 16384

noncomputable section

namespace Cert.Proof.PoolRing

open Idealize.ShloMosaic Idealize.ShloMosaic.TcCoe Idealize.SL.Sem Idealize.ShloMosaic.Tactic

/-- The two programs' main functions are the same, -/
theorem main_same : Cert.Kernel.main (F := Bits) = Cert.KernelIdeal.main (F := Bits) := by sl_kernel_rfl
/-- and the functions they call. -/
theorem defs_same : Cert.Kernel.defs (F := Bits) = Cert.KernelIdeal.defs (F := Bits) := by sl_kernel_rfl

/-- A run of the one program is a run of the other. -/
theorem run_same (s : MemSt Cert.KernelIdeal.nD Cert.KernelIdeal.τ Cert.KernelIdeal.sig (Elt Bits)) (Q)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := by
  rw [main_same, defs_same]
  exact h

/-- The kernel ends with its argument as it was and every counter at zero, for any float values. -/
theorem frame_any {F : FTy → Type} [FloatOps F] (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F))) ⟨m, fun _ => 0, g⟩ (fun r =>
      (∀ c : Dev Cert.KernelIdeal.nD, r.2.mem ((c : Thread Cert.KernelIdeal.nD Cert.KernelIdeal.τ).loc Cert.KernelIdeal.main_arg0)
        = m ((c : Thread Cert.KernelIdeal.nD Cert.KernelIdeal.τ).loc Cert.KernelIdeal.main_arg0)) ∧ r.2.sem = fun _ => 0) :=
  (θ_run _ _ _).mono (fun _ h => ⟨fun c => (h.1 c).1, h.2⟩) (run_main (F := F) m g)

theorem frame_kernel : Cert.quiescent_Kernel := fun m g _ => run_same _ _ (frame_any (F := Bits) m g)

theorem frame_ideal : Cert.quiescent_KernelIdeal := fun m g _ => frame_any (F := Ideal) m g

theorem frame_ideal_pre : Cert.quiescent_KernelIdeal_pre_above_bottom (hPre_above_bottom := Cert.Pre_above_bottom.Gen.facts) :=
  fun m g _ => frame_any (F := Ideal) m g

end Cert.Proof.PoolRing

end
-- ==== Proof.Reference.lean ====
/-
  The reference: its run leaves its argument as it was, and its result read at an index is the greatest of eight entries
  times the channel's factor.
-/
module

public import proofs.«01_k».proof.Defs
public import proofs.«01_k».proof.Proof.Gen.ReferenceIdeal
public import proofs.«01_k».proof.Proof.Gen.Pre_above_bottom
public import Idealize.ShloMosaic.Lib.Claim
public import Idealize.ShloMosaic.Lib.Quiescent
public import Idealize.ShloMosaic.Lib.Pointwise

@[expose] public section

set_option maxRecDepth 16384

noncomputable section

namespace Cert.Proof.PoolRing

open Idealize.ShloMosaic Idealize.ShloMosaic.TcCoe Idealize.SL.Sem Idealize.ShloMosaic.Tactic Idealize.ShloMosaic.Pointwise
open Cert.ReferenceIdeal (S4x224x224x192 S4x224x224x24x8 S4x224x224x24 S1x1x1x24 S24 S_)

/-! ## The frames -/

/-- The reference leaves its argument as it was, and it has no counter that could end above zero. -/
theorem frame_reference : Cert.quiescent_ReferenceIdeal := by
  intro m g _
  refine θ_run_mono (Q := fun r => ∀ c : Dev Cert.ReferenceIdeal.nD,
    r.2.mem ((c : Thread Cert.ReferenceIdeal.nD Cert.ReferenceIdeal.τ).loc Cert.ReferenceIdeal.main_arg0)
      = m ((c : Thread Cert.ReferenceIdeal.nD Cert.ReferenceIdeal.τ).loc Cert.ReferenceIdeal.main_arg0)) ?_
    fun r h => ⟨h, sem_eq_zero_of_no_sems (by decide) r.2⟩
  hlo_run

theorem frame_reference_pre : Cert.quiescent_ReferenceIdeal_pre_above_bottom (hPre_above_bottom := Cert.Pre_above_bottom.Gen.facts) :=
  fun m g _ => frame_reference m g trivial

/-! ## The result at an index -/

/-- The reference's maximum over groups of eight entries, -/
def groupMax (X : S4x224x224x192.Idx → Ideal .f32) : S4x224x224x24.Idx → Ideal .f32 :=
  Host.reduce FloatOps.maximumf
    (shapeCast S4x224x224x24x8 X Cert.ReferenceIdeal.Gen.facts.shapeCasts_S4x224x224x192_S4x224x224x24x8)
    (constant S_ .f32 0xFF800000#32) Cert.ReferenceIdeal.Gen.facts.reducesTo_S4x224x224x24x8_S4x224x224x24_d4
    Cert.ReferenceIdeal.Gen.facts.h_S_

/-- its factors over the whole result, -/
def factors : S4x224x224x24.Idx → Ideal .f32 :=
  broadcastInDim S4x224x224x24 ![0, 1, 2, 3] Cert.ReferenceIdeal.Gen.facts.bcast_S1x1x1x24_S4x224x224x24_0_1_2_3
    (broadcastInDim S1x1x1x24 ![3] Cert.ReferenceIdeal.Gen.facts.bcast_S24_S1x1x1x24_3
      (fun i => FloatOps.ofBits (F := Ideal) .f32 (Cert.ReferenceIdeal.lit0 (S24.rowMajor i))))

/-- and their product, its result. -/
def refOf (X : S4x224x224x192.Idx → Ideal .f32) : S4x224x224x24.Idx → Ideal .f32 := mulf (groupMax X) (factors)

theorem split_apply (X : S4x224x224x192.Idx → Ideal .f32) (h) (a : Fin 4) (b c : Fin 224) (j : Fin 24) (e : Fin 8) :
    shapeCast S4x224x224x24x8 X h (ix5 a b c j e) = X (ix4 a b c ⟨j.val * 8 + e.val, by omega⟩) := by
  pointwise

/-- A group's maximum is the fold of its eight entries. -/
theorem groupMax_apply (X : S4x224x224x192.Idx → Ideal .f32) (a : Fin 4) (b c : Fin 224) (j : Fin 24) :
    groupMax X (ix4 a b c j)
      = Finset.univ.fold max (Ideal.ofBits .f32 0xFF800000#32) fun e : Fin 8 => X (ix4 a b c ⟨j.val * 8 + e.val, by omega⟩) := by
  have h : S4x224x224x24x8.Reduces [4] S4x224x224x24 := by decide
  have hl : ∀ e : Fin 8, h.lift (ix4 a b c j) e = ix5 a b c j e := by
    intro e; funext x; fin_cases x <;> exact Fin.ext rfl
  refine (Host.reduce_eq_fold_single _ _ _ _ h _ _).trans ?_
  refine Finset.fold_congr fun e _ => ?_
  exact (congrArg _ (hl e)).trans (split_apply X _ a b c j e)

/-- A channel's factor is the word the table has for it. -/
theorem factors_apply (a : Fin 4) (b c : Fin 224) (j : Fin 24) :
    factors (ix4 a b c j) = Ideal.ofBits .f32 (Cert.ReferenceIdeal.lit0 j) := by
  unfold factors
  pointwise
  rw [show S24.rowMajor (ix1 j) = j from Fin.ext (rowMajor_val1 _)]

/-- An entry of an elementwise product is the product of the entries. -/
theorem mulf_entry {s : Shape} (x y : s.Idx → Ideal .f32) (i : s.Idx) : mulf x y i = x i * y i := rfl

/-- The reference's result at an index is the fold of eight entries times the channel's factor. -/
theorem refOf_apply (X : S4x224x224x192.Idx → Ideal .f32) (a : Fin 4) (b c : Fin 224) (j : Fin 24) :
    refOf X (ix4 a b c j)
      = (Finset.univ.fold max (Ideal.ofBits .f32 0xFF800000#32) fun e : Fin 8 => X (ix4 a b c ⟨j.val * 8 + e.val, by omega⟩))
        * Ideal.ofBits .f32 (Cert.ReferenceIdeal.lit0 j) := by
  unfold refOf
  rw [mulf_entry, groupMax_apply, factors_apply]

end Cert.Proof.PoolRing

end
-- ==== Proof.Levels.lean ====
/-
  One level of the kernel over the extended reals: a product with a table of pairs, then the left half plus the positive part
  of the right half. For a pair of entries `a` and `b` and a factor `s` the halves are `a * s` and `b * s - a * s`, so the
  level gives `max a b * s`; three levels give the maximum of eight entries.
-/
module

public import Mathlib.Data.EReal.Operations
public import Mathlib.Algebra.BigOperators.Group.Finset.Basic
public import Mathlib.Data.Fintype.BigOperators

@[expose] public section

noncomputable section

namespace Cert.Proof.PoolRing

/-- `a * s` plus the positive part of `b * s - a * s` is the greater entry times `s`, the entries above the bottom. -/
theorem pair_max {a b : EReal} {s : ℝ} (hs : 0 ≤ s) (ha : a ≠ ⊥) (hb : b ≠ ⊥) :
    a * (s : EReal) + max (a * -(s : EReal) + b * (s : EReal)) 0 = max a b * (s : EReal) := by
  rcases hs.eq_or_lt with rfl | hs
  · simp
  induction a with
  | bot => exact absurd rfl ha
  | top =>
    have hn : (⊤ : EReal) * -(s : EReal) = ⊥ := by rw [← EReal.coe_neg]; exact EReal.top_mul_coe_of_neg (neg_lt_zero.mpr hs)
    rw [hn, EReal.bot_add, max_eq_right bot_le, add_zero, max_eq_left le_top]
  | coe x =>
    induction b with
    | bot => exact absurd rfl hb
    | top =>
      rw [EReal.top_mul_coe_of_pos hs, max_eq_right (le_top : (x : EReal) ≤ ⊤), EReal.top_mul_coe_of_pos hs, ← EReal.coe_neg,
        ← EReal.coe_mul, ← EReal.coe_mul, EReal.coe_add_top, max_eq_left le_top, EReal.coe_add_top]
    | coe y =>
      rw [← EReal.coe_neg, ← EReal.coe_zero]
      have hm : ∀ p q : ℝ, max (p : EReal) (q : EReal) = ((max p q : ℝ) : EReal) := fun p q =>
        (EReal.coe_strictMono.monotone.map_max (a := p) (b := q)).symm
      simp only [← EReal.coe_mul, ← EReal.coe_add, hm]
      congr 1
      rcases le_total x y with h | h
      · rw [max_eq_right h, max_eq_left (by nlinarith)]; ring
      · rw [max_eq_left h, max_eq_right (by nlinarith)]; ring

/-- One level on a row `v` with table `w`, at column `n`. -/
def lev {K : ℕ} (v : Fin K → EReal) (w : Fin K → Fin 256 → EReal) (n : Fin 128) : EReal :=
  (∑ k, v k * w k ⟨n.val, by omega⟩) + max (∑ k, v k * w k ⟨128 + n.val, by omega⟩) 0

/-- The entries of a table of `c` pairs with factors `s`. -/
def Pairs (K c : ℕ) (hc : c ≤ 128) (w : Fin K → Fin 256 → EReal) (s : Fin c → ℝ) : Prop :=
  ∀ (k : Fin K) (j : Fin c), w k ⟨j.val, by omega⟩ = (if k.val = 2 * j.val then (s j : EReal) else 0)
    ∧ w k ⟨128 + j.val, by omega⟩ = (if k.val = 2 * j.val then -(s j : EReal) else if k.val = 2 * j.val + 1 then (s j : EReal) else 0)

/-- A level with a table of pairs gives, at column `j`, the greater of entries `2 * j` and `2 * j + 1` times factor `j`. -/
theorem lev_pairs {K c : ℕ} {hc : c ≤ 128} {w : Fin K → Fin 256 → EReal} {s : Fin c → ℝ} (h : Pairs K c hc w s) (j : Fin c)
    (hs : 0 ≤ s j) (hK : 2 * c ≤ K) (v : Fin K → EReal) (h0 : v ⟨2 * j.val, by omega⟩ ≠ ⊥) (h1 : v ⟨2 * j.val + 1, by omega⟩ ≠ ⊥) :
    lev v w ⟨j.val, by omega⟩ = max (v ⟨2 * j.val, by omega⟩) (v ⟨2 * j.val + 1, by omega⟩) * (s j : EReal) := by
  have hl : ∑ k, v k * w k ⟨j.val, by omega⟩ = v ⟨2 * j.val, by omega⟩ * (s j : EReal) := by
    rw [Finset.sum_eq_single (⟨2 * j.val, by omega⟩ : Fin K)]
    · rw [(h _ j).1, if_pos rfl]
    · intro k _ hk
      rw [(h k j).1, if_neg (fun e => hk (Fin.ext e)), mul_zero]
    · intro hn; exact absurd (Finset.mem_univ _) hn
  have hr : ∑ k, v k * w k ⟨128 + j.val, by omega⟩
      = v ⟨2 * j.val, by omega⟩ * -(s j : EReal) + v ⟨2 * j.val + 1, by omega⟩ * (s j : EReal) := by
    rw [Finset.sum_eq_add (⟨2 * j.val, by omega⟩ : Fin K) ⟨2 * j.val + 1, by omega⟩]
    · rw [(h _ j).2, (h _ j).2, if_pos rfl, if_neg (by simp only; omega), if_pos rfl]
    · intro e; have := congrArg Fin.val e; simp only at this; omega
    · intro k _ hk
      rw [(h k j).2, if_neg (fun e => hk.1 (Fin.ext e)), if_neg (fun e => hk.2 (Fin.ext e)), mul_zero]
    · intro hn; exact absurd (Finset.mem_univ _) hn
    · intro hn; exact absurd (Finset.mem_univ _) hn
  unfold lev
  simp only [hl, hr]
  exact pair_max hs h0 h1

/-- The greatest of eight entries from `8 * j` on, as a fold. -/
def max8 (v : Fin 192 → EReal) (j : Fin 24) : EReal := Finset.univ.fold max ⊥ fun e : Fin 8 => v ⟨j.val * 8 + e.val, by omega⟩

/-- The fold of eight entries is the maximum of the pairs' pairs' maxima. -/
theorem fold8 (f : Fin 8 → EReal) :
    Finset.univ.fold max ⊥ f = max (max (max (f 0) (f 1)) (max (f 2) (f 3))) (max (max (f 4) (f 5)) (max (f 6) (f 7))) := by
  rw [show (Finset.univ : Finset (Fin 8)) = {0, 1, 2, 3, 4, 5, 6, 7} from rfl]
  simp only [Finset.fold_insert (show (0 : Fin 8) ∉ ({1, 2, 3, 4, 5, 6, 7} : Finset (Fin 8)) by decide),
    Finset.fold_insert (show (1 : Fin 8) ∉ ({2, 3, 4, 5, 6, 7} : Finset (Fin 8)) by decide),
    Finset.fold_insert (show (2 : Fin 8) ∉ ({3, 4, 5, 6, 7} : Finset (Fin 8)) by decide),
    Finset.fold_insert (show (3 : Fin 8) ∉ ({4, 5, 6, 7} : Finset (Fin 8)) by decide),
    Finset.fold_insert (show (4 : Fin 8) ∉ ({5, 6, 7} : Finset (Fin 8)) by decide),
    Finset.fold_insert (show (5 : Fin 8) ∉ ({6, 7} : Finset (Fin 8)) by decide),
    Finset.fold_insert (show (6 : Fin 8) ∉ ({7} : Finset (Fin 8)) by decide), Finset.fold_singleton, max_bot_right]
  ac_rfl

/-- The greater of two entries above the bottom is above it. -/
theorem max_ne_bot {a b : EReal} (ha : a ≠ ⊥) : max a b ≠ ⊥ := fun h => ha (le_bot_iff.mp (h ▸ le_max_left a b))

/-- Three levels, the first two with factors one, give the greatest of eight entries times the third's factor. -/
theorem three_levels {w1 : Fin 192 → Fin 256 → EReal} {w2 w3 : Fin 128 → Fin 256 → EReal} {s : Fin 24 → ℝ}
    (h1 : Pairs 192 96 (by decide) w1 fun _ => 1) (h2 : Pairs 128 48 (by decide) w2 fun _ => 1) (h3 : Pairs 128 24 (by decide) w3 s)
    (hs : ∀ j, 0 ≤ s j) (v : Fin 192 → EReal) (hv : ∀ k, v k ≠ ⊥) (j : Fin 24) :
    lev (lev (lev v w1) w2) w3 ⟨j.val, by omega⟩ = max8 v j * (s j : EReal) := by
  have e1 : ∀ i : Fin 96, lev v w1 ⟨i.val, by omega⟩ = max (v ⟨2 * i.val, by omega⟩) (v ⟨2 * i.val + 1, by omega⟩) := by
    intro i
    rw [lev_pairs h1 i zero_le_one (by decide) v (hv _) (hv _), EReal.coe_one, mul_one]
  have e2 : ∀ i : Fin 48, lev (lev v w1) w2 ⟨i.val, by omega⟩
      = max (max (v ⟨4 * i.val, by omega⟩) (v ⟨4 * i.val + 1, by omega⟩)) (max (v ⟨4 * i.val + 2, by omega⟩) (v ⟨4 * i.val + 3, by omega⟩)) := by
    intro i
    have a := e1 ⟨2 * i.val, by omega⟩
    have b := e1 ⟨2 * i.val + 1, by omega⟩
    simp only [show 2 * (2 * i.val) = 4 * i.val by omega, show 2 * (2 * i.val + 1) = 4 * i.val + 2 by omega] at a b
    rw [lev_pairs h2 i zero_le_one (by decide) _ (by rw [a]; exact max_ne_bot (hv _)) (by rw [b]; exact max_ne_bot (hv _)), EReal.coe_one,
      mul_one, a, b]
  have a := e2 ⟨2 * j.val, by omega⟩
  have b := e2 ⟨2 * j.val + 1, by omega⟩
  simp only [show 4 * (2 * j.val) = j.val * 8 by omega, show 4 * (2 * j.val + 1) = j.val * 8 + 4 by omega] at a b
  rw [lev_pairs h3 j (hs j) (by decide) _ (by rw [a]; exact max_ne_bot (max_ne_bot (hv _)))
    (by rw [b]; exact max_ne_bot (max_ne_bot (hv _))), a, b]
  unfold max8
  rw [fold8]
  rfl

end Cert.Proof.PoolRing

end
-- ==== Proof.Read.lean ====
/-
  The stored block at the extended reals, read at an index: three levels on one row of the block.
-/
module

public import proofs.«01_k».proof.Proof.Levels
public import proofs.«01_k».proof.Proof.Values
public import Idealize.ShloMosaic.Lib.Pointwise

@[expose] public section

set_option maxRecDepth 16384

noncomputable section

namespace Cert.Proof.PoolRing

open Cert.KernelIdeal Cert.KernelIdeal.Gen
open Idealize.ShloMosaic
open Idealize.ShloMosaic.TcCoe Idealize.ShloMosaic.Tactic Idealize.ShloMosaic.Pointwise

/-- A table's entry in row `k` and column `n`. -/
def ent {K : ℕ} (w : (⟨2, ![K, 256]⟩ : Shape).Idx → Ideal .f32) (k : Fin K) (n : Fin 256) : EReal := w (ix2 k n)

/-- The block sent out holds, at row `a`, position `b` and channel `n`, three levels of that position's 192 entries. -/
theorem outv_apply (x : S1x16x224x192.Idx → Ideal .f32) (w2 : Vec Ideal S192x256 .f32) (w3 w4 : Vec Ideal S128x256 .f32)
    (a : Fin 16) (b : Fin 224) (n : Fin 24) :
    outv x w2 w3 w4 (ix4 0 a b n)
      = lev (lev (lev (fun k => x (ix4 0 a b k)) (ent w2)) (ent w3)) (ent w4) ⟨n.val, by omega⟩ := by
  unfold outv drop lift
  pointwise [k0_pay1]
  rfl

end Cert.Proof.PoolRing

end
-- ==== Proof.Words.lean ====
/-
  The words of the three weight tables, in the rows and columns the result depends on.
-/
module

public import proofs.«01_k».proof.KernelIdeal
public import proofs.«01_k».proof.ReferenceIdeal
public import Idealize.ShloMosaic.Lib.Decide

@[expose] public section

set_option maxRecDepth 16384

noncomputable section

namespace Cert.Proof.PoolRing

theorem left_lt {K c : ℕ} (hc : c ≤ 128) (k : Fin K) (j : Fin c) : k.val * 256 + j.val < K * 256 := by omega
theorem right_lt {K c : ℕ} (hc : c ≤ 128) (k : Fin K) (j : Fin c) : k.val * 256 + (128 + j.val) < K * 256 := by omega

/-- Row `k` of a table of `c` pairs with factors `p`: column `j` takes entry `2 * j`, and column `128 + j` the difference of
    entries `2 * j + 1` and `2 * j`, each times factor `j`. -/
abbrev RowIs (K c : ℕ) (hc : c ≤ 128) (L : Fin (K * 256) → BitVec 32) (p : Fin c → BitVec 32) (k : Fin K) : Prop :=
  ∀ j : Fin c, L ⟨k.val * 256 + j.val, left_lt hc k j⟩ = (if k.val = 2 * j.val then p j else 0#32)
    ∧ L ⟨k.val * 256 + (128 + j.val), right_lt hc k j⟩
      = (if k.val = 2 * j.val then p j ^^^ 0x80000000#32 else if k.val = 2 * j.val + 1 then p j else 0#32)

/-- Rows taken eight at a time are all the rows. -/
theorem by_eights {A : ℕ} {R : Fin (A * 8) → Prop} (h : ∀ (a : Fin A) (b : Fin 8), R ⟨a.val * 8 + b.val, by omega⟩) : ∀ k, R k := by
  intro k
  have e := h ⟨k.val / 8, by omega⟩ ⟨k.val % 8, by omega⟩
  have hk : (⟨k.val / 8 * 8 + k.val % 8, by omega⟩ : Fin (A * 8)) = k := Fin.ext (by simp only; omega)
  rwa [hk] at e

/-- The word of one. -/
def oneWord {c : ℕ} (_ : Fin c) : BitVec 32 := 0x3F800000#32

end Cert.Proof.PoolRing

end
-- ==== Proof.Factors.lean ====
/-
  What the tables' words stand for over the extended reals: zero, a factor, and its negative.
-/
module

public import proofs.«01_k».proof.Proof.Levels
public import proofs.«01_k».proof.Proof.Words
public import Idealize.ShloMosaic.Lib.Pointwise

@[expose] public section

set_option maxRecDepth 16384

noncomputable section

namespace Cert.Proof.PoolRing

open Idealize.ShloMosaic

/-- The magnitude of a normal binary32 word. -/
def mag (w : BitVec 32) : ℝ :=
  (2 ^ 23 + (w.extractLsb' 0 23).toNat : ℕ) * (2 : ℝ) ^ (((w.extractLsb' 23 8).toNat : ℤ) - (2 ^ (8 - 1) - 1) - (23 : ℕ))

theorem mag_nonneg (w : BitVec 32) : 0 ≤ mag w := mul_nonneg (Nat.cast_nonneg _) (zpow_nonneg zero_le_two _)

/-- A word is a normal one with the sign bit clear, and with that bit flipped differs in nothing else. -/
abbrev Normal (w : BitVec 32) : Prop :=
  w.extractLsb' 31 1 = 0#1 ∧ (w ^^^ 0x80000000#32).extractLsb' 31 1 = 1#1
    ∧ (w ^^^ 0x80000000#32).extractLsb' 23 8 = w.extractLsb' 23 8 ∧ (w ^^^ 0x80000000#32).extractLsb' 0 23 = w.extractLsb' 0 23
    ∧ (w.extractLsb' 23 8).toNat ≠ 2 ^ 8 - 1 ∧ (w.extractLsb' 23 8).toNat ≠ 0

theorem ofBits_normal {w : BitVec 32} (h : Normal w) : Ideal.ofBits .f32 w = (mag w : EReal) := by
  obtain ⟨h0, -, -, -, hx, hz⟩ := h
  simp only [Ideal.ofBits, Ideal.ieee, mag, h0]
  rw [if_neg hx, if_neg hz]
  simp

theorem ofBits_flipped {w : BitVec 32} (h : Normal w) : Ideal.ofBits .f32 (w ^^^ 0x80000000#32) = -(mag w : EReal) := by
  obtain ⟨-, h1, he, hf, hx, hz⟩ := h
  simp only [Ideal.ofBits, Ideal.ieee, mag, h1, he, hf]
  rw [if_neg hx, if_neg hz, ← EReal.coe_neg, ← neg_mul, beq_self_eq_true, if_pos rfl, neg_one_mul]

theorem normal_one : Normal 0x3F800000#32 := by decide
theorem normal_factors : ∀ j, Normal (Cert.ReferenceIdeal.lit0 j) := by decide

theorem mag_one : mag 0x3F800000#32 = 1 := by
  have h := ofBits_normal normal_one
  rw [Ideal.ofBits_one_f32] at h
  exact_mod_cast h.symm

/-- A table whose words are those of pairs holds pairs. -/
theorem pairs_of_rows {K c : ℕ} {hc : c ≤ 128} {L : Fin (K * 256) → BitVec 32} {p : Fin c → BitVec 32} {w : Fin K → Fin 256 → EReal}
    (h : ∀ k, RowIs K c hc L p k) (hp : ∀ j, Normal (p j)) (hw : ∀ k n, w k n = Ideal.ofBits .f32 (L ⟨k.val * 256 + n.val, by omega⟩)) :
    Pairs K c hc w fun j => mag (p j) := by
  have hz : Ideal.ofBits .f32 0#32 = 0 := Ideal.ofBits_zero_f32
  intro k j
  refine ⟨?_, ?_⟩
  · rw [hw, (h k j).1]
    split
    · exact ofBits_normal (hp j)
    · exact hz
  · rw [hw, (h k j).2]
    split
    · exact ofBits_flipped (hp j)
    · split
      · exact ofBits_normal (hp j)
      · exact hz

end Cert.Proof.PoolRing

end
-- ==== Proof.Words1.lean ====
/-
  The words of the first table.
-/
module

public import proofs.«01_k».proof.Proof.Words
import Mathlib.Tactic.FinCases

@[expose] public section

set_option maxRecDepth 16384
set_option maxHeartbeats 8000000

noncomputable section

namespace Cert.Proof.PoolRing

theorem words1 : ∀ k : Fin 192, RowIs 192 96 (by decide) Cert.KernelIdeal.lit0 oneWord k :=
  by_eights (A := 24) (by intro a; fin_cases a <;> decide +kernel)

end Cert.Proof.PoolRing

end
-- ==== Proof.Words2.lean ====
/-
  The words of the second table.
-/
module

public import proofs.«01_k».proof.Proof.Words
import Mathlib.Tactic.FinCases

@[expose] public section

set_option maxRecDepth 16384
set_option maxHeartbeats 8000000

noncomputable section

namespace Cert.Proof.PoolRing

theorem words2 : ∀ k : Fin 128, RowIs 128 48 (by decide) Cert.KernelIdeal.lit1 oneWord k :=
  by_eights (A := 16) (by intro a; fin_cases a <;> decide +kernel)

end Cert.Proof.PoolRing

end
-- ==== Proof.Words3.lean ====
/-
  The words of the third table.
-/
module

public import proofs.«01_k».proof.Proof.Words
import Mathlib.Tactic.FinCases

@[expose] public section

set_option maxRecDepth 16384

noncomputable section

namespace Cert.Proof.PoolRing

theorem words3 : ∀ k : Fin 128, RowIs 128 24 (by decide) Cert.KernelIdeal.lit2 Cert.ReferenceIdeal.lit0 k :=
  by_eights (A := 16) (by intro a; fin_cases a <;> decide +kernel)

end Cert.Proof.PoolRing

end
-- ==== Proof.Value.lean ====
/-
  The value: on an argument above the bottom, the array of the kernel's blocks is the reference's result.
-/
module

public import proofs.«01_k».proof.Proof.Launch
public import proofs.«01_k».proof.Proof.Read
public import proofs.«01_k».proof.Proof.Factors
public import proofs.«01_k».proof.Proof.Words1
public import proofs.«01_k».proof.Proof.Words2
public import proofs.«01_k».proof.Proof.Words3
public import proofs.«01_k».proof.Proof.Reference

@[expose] public section

set_option maxRecDepth 16384

noncomputable section

namespace Cert.Proof.PoolRing

open Idealize.ShloMosaic Idealize.ShloMosaic.TcCoe Idealize.ShloMosaic.Tactic Idealize.ShloMosaic.Pointwise
open Cert.KernelIdeal Cert.KernelIdeal.Gen

/-! ## The precondition -/

/-- A conjunction of bits is one only if every bit is. -/
theorem foldl_and {α : Type} (p : α → BitVec 1) (l : List α) :
    ∀ b, l.foldl (fun r i => IntOp.andi r (p i)) b = 1#1 → b = 1#1 ∧ ∀ i ∈ l, p i = 1#1 := by
  have both : ∀ x y : BitVec 1, IntOp.andi x y = 1#1 → x = 1#1 ∧ y = 1#1 := by decide
  induction l with
  | nil => exact fun b h => ⟨h, fun i hi => absurd hi List.not_mem_nil⟩
  | cons a l ih =>
    intro b h
    obtain ⟨h1, h2⟩ := ih _ h
    refine ⟨(both _ _ h1).1, fun i hi => ?_⟩
    rcases List.mem_cons.mp hi with rfl | hi
    · exact (both _ _ h1).2
    · exact h2 i hi

/-- The word of minus infinity stands for the bottom. -/
theorem ofBits_bottom : Ideal.ofBits .f32 0xFF800000#32 = ⊥ := by
  simp [Ideal.ofBits, Ideal.ieee]

/-- Under the precondition every entry lies above the bottom. -/
theorem above_of_pre (X : S4x224x224x192.Idx → Ideal .f32)
    (h : @Cert.Pre_above_bottom.fn Cert.Pre_above_bottom.Gen.facts Ideal _ X = fun _ => 1#1) (i : S4x224x224x192.Idx) : X i ≠ ⊥ := by
  have h0 := congrFun h (fun a => a.elim0)
  unfold Cert.Pre_above_bottom.fn at h0
  dsimp only at h0
  rw [Host.reduce_eq_foldl] at h0
  have h1 := (foldl_and _ _ _ h0).2 i (List.mem_filter.mpr
    ⟨List.mem_map.mpr ⟨S4x224x224x192.rowMajor i, List.mem_finRange _, Equiv.symm_apply_apply _ _⟩, decide_eq_true (funext fun a => a.elim0)⟩)
  have h2 : Ideal.cmp .ogt (X i) (Ideal.ofBits .f32 0xFF800000#32) = 1#1 := h1
  rw [ofBits_bottom] at h2
  intro e
  rw [e] at h2
  simp [Ideal.cmp] at h2

/-! ## The tables -/

theorem tab1_pairs : Pairs 192 96 (by decide) (ent (tab1 (F := Ideal))) fun _ => 1 := by
  have h := pairs_of_rows (w := ent (tab1 (F := Ideal))) words1 (fun _ => normal_one) fun k n =>
    congrArg (fun i => Ideal.ofBits .f32 (lit0 i)) (Fin.ext (rowMajor_val2 (ix2 k n) 256 rfl))
  simpa only [oneWord, mag_one] using h

theorem tab2_pairs : Pairs 128 48 (by decide) (ent (tab2 (F := Ideal))) fun _ => 1 := by
  have h := pairs_of_rows (w := ent (tab2 (F := Ideal))) words2 (fun _ => normal_one) fun k n =>
    congrArg (fun i => Ideal.ofBits .f32 (lit1 i)) (Fin.ext (rowMajor_val2 (ix2 k n) 256 rfl))
  simpa only [oneWord, mag_one] using h

theorem tab3_pairs : Pairs 128 24 (by decide) (ent (tab3 (F := Ideal))) fun j => mag (Cert.ReferenceIdeal.lit0 j) :=
  pairs_of_rows (w := ent (tab3 (F := Ideal))) words3 normal_factors fun k n =>
    congrArg (fun i => Ideal.ofBits .f32 (lit2 i)) (Fin.ext (rowMajor_val2 (ix2 k n) 256 rfl))

/-! ## The result -/

/-- Block `b` of the argument reads, at row `r` of the block, the argument at that row. -/
theorem xblk_read (X : S4x224x224x192.Idx → Ideal .f32) (b : Fin 56) (r : Fin 16) (q : Fin 224) (k : Fin 192) :
    (xblk b).view.read (Elt Ideal) X (ix4 0 r q k) = X (ix4 ⟨b.val / 14, by omega⟩ ⟨b.val % 14 * 16 + r.val, by omega⟩ q k) := by
  refine congrArg X (funext fun a => Fin.ext ?_)
  fin_cases a
  · show b.val / 14 + 1 * 0 = b.val / 14; omega
  · show b.val % 14 * 16 + 1 * r.val = b.val % 14 * 16 + r.val; omega
  · show 0 + 1 * q.val = q.val; omega
  · show 0 + 1 * k.val = k.val; omega

/-- The kernel's result is the reference's, on an argument above the bottom. -/
theorem value (X : S4x224x224x192.Idx → Ideal .f32) (hX : ∀ i, X i ≠ ⊥) : arrOf (outOf (F := Ideal) X) = refOf X := by
  funext y
  obtain ⟨a, p, q, j, rfl⟩ : ∃ (a : Fin 4) (p q : Fin 224) (j : Fin 24), y = ix4 a p q j := ⟨y 0, y 1, y 2, y 3, eq_ix4 y⟩
  have hB : (blkOf (ix4 a p q j)).val = a.val * 14 + p.val / 16 := rfl
  have hI : inBlk (ix4 a p q j) = ix4 0 ⟨p.val % 16, by omega⟩ q j := by
    funext x; fin_cases x <;> rfl
  have hrow : ∀ k : Fin 192, (xblk (blkOf (ix4 a p q j))).view.read (Elt Ideal) X (ix4 0 ⟨p.val % 16, by omega⟩ q k) = X (ix4 a p q k) := by
    intro k
    rw [xblk_read]
    have e0 : (⟨(blkOf (ix4 a p q j)).val / 14, by omega⟩ : Fin 4) = a := Fin.ext (by simp only [hB]; omega)
    have e1 : (⟨(blkOf (ix4 a p q j)).val % 14 * 16 + p.val % 16, by omega⟩ : Fin 224) = p := Fin.ext (by simp only [hB]; omega)
    rw [e0, e1]
  have hk : arrOf (outOf (F := Ideal) X) (ix4 a p q j) = max8 (fun k => X (ix4 a p q k)) j * (mag (Cert.ReferenceIdeal.lit0 j) : EReal) := by
    unfold arrOf
    rw [hI]
    unfold outOf
    rw [outv_apply, funext hrow]
    exact three_levels tab1_pairs tab2_pairs tab3_pairs (fun _ => mag_nonneg _) _ (fun k => hX _) j
  have hr : refOf X (ix4 a p q j) = max8 (fun k => X (ix4 a p q k)) j * (mag (Cert.ReferenceIdeal.lit0 j) : EReal) := by
    rw [refOf_apply, ofBits_bottom, ofBits_normal (normal_factors j)]
    unfold max8
    rfl
  rw [hk, hr]

end Cert.Proof.PoolRing

end
-- ==== Proof.lean ====
module

public import proofs.«01_k».proof.Defs
public import proofs.«01_k».proof.Proof.Frames
public import proofs.«01_k».proof.Proof.Reference
public import proofs.«01_k».proof.Proof.Value

@[expose] public section

noncomputable section

namespace Cert.Proof

open Idealize.ShloMosaic Idealize.ShloMosaic.TcCoe Idealize.SL.Sem Idealize.ShloMosaic.Tactic
open Cert.Proof.PoolRing

/-- The kernel and the reference end with the same result: the greatest of eight entries times the channel's factor. -/
theorem same_result : Cert.algebraic_KernelIdeal_ReferenceIdeal_pre_above_bottom
    (hPre_above_bottom := Cert.Pre_above_bottom.Gen.facts) := by
  intro m g m' g' hpre hagree
  refine ⟨fun c => arrOf (outOf (F := Ideal) (inX m c)), θ_run_mono (run_main (F := Ideal) m g) fun r h c => ⟨(h.1 c).2, (h.1 c).1⟩, ?_⟩
  hlo_run
  exact (value (inX m c) (above_of_pre _ (hpre c))).symm

theorem claim : Cert.Claim :=
  ⟨Cert.Kernel.Gen.facts, Cert.KernelIdeal.Gen.facts, Cert.ReferenceIdeal.Gen.facts, Cert.Pre_above_bottom.Gen.facts,
    frame_kernel, frame_ideal, frame_ideal_pre, frame_reference, frame_reference_pre, trivial, same_result⟩

end Cert.Proof

end
